-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_RefInSampleIdeal (m : (ℓ : Loc Cert.RefInSampleIdeal.nD Cert.RefInSampleIdeal.τ Cert.RefInSampleIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_RefPostIdeal (m : (ℓ : Loc Cert.RefPostIdeal.nD Cert.RefPostIdeal.τ Cert.RefPostIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_RefPostSampleIdeal (m : (ℓ : Loc Cert.RefPostSampleIdeal.nD Cert.RefPostSampleIdeal.τ Cert.RefPostSampleIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5)
      ∧ r.2.mem ((c.tc : Thread Cert.InSample.nD Cert.InSample.τ).loc Cert.InSample.main_arg6) = m ((c.tc : Thread Cert.InSample.nD Cert.InSample.τ).loc Cert.InSample.main_arg6)
      ∧ r.2.mem ((c.tc : Thread Cert.InSample.nD Cert.InSample.τ).loc Cert.InSample.main_arg7) = m ((c.tc : Thread Cert.InSample.nD Cert.InSample.τ).loc Cert.InSample.main_arg7))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
      ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
      ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7))
      ∧ r.2.sem = fun _ => 0)

def quiescent_RefInSampleIdeal [hRefInSampleIdeal : Cert.RefInSampleIdeal.Facts] : Prop :=
  ∀ (m : (ℓ : Loc Cert.RefInSampleIdeal.nD Cert.RefInSampleIdeal.τ Cert.RefInSampleIdeal.sig) → Buf (Elt Ideal) ℓ) (g : Dev Cert.RefInSampleIdeal.nD → PrngReg), Pre_RefInSampleIdeal m →
    θ_run (Cert.RefInSampleIdeal.defs (F := Ideal)) (onTc (τ := Cert.RefInSampleIdeal.τ) (Cert.RefInSampleIdeal.main (F := Ideal))) ⟨m, fun _ => 0, g⟩ (fun r => (∀ c : Dev Cert.RefInSampleIdeal.nD,
      r.2.mem ((c.tc : Thread Cert.RefInSampleIdeal.nD Cert.RefInSampleIdeal.τ).loc Cert.RefInSampleIdeal.main_arg0) = m ((c.tc : Thread Cert.RefInSampleIdeal.nD Cert.RefInSampleIdeal.τ).loc Cert.RefInSampleIdeal.main_arg0)
      ∧ r.2.mem ((c.tc : Thread Cert.RefInSampleIdeal.nD Cert.RefInSampleIdeal.τ).loc Cert.RefInSampleIdeal.main_arg1) = m ((c.tc : Thread Cert.RefInSampleIdeal.nD Cert.RefInSampleIdeal.τ).loc Cert.RefInSampleIdeal.main_arg1)
      ∧ r.2.mem ((c.tc : Thread Cert.RefInSampleIdeal.nD Cert.RefInSampleIdeal.τ).loc Cert.RefInSampleIdeal.main_arg2) = m ((c.tc : Thread Cert.RefInSampleIdeal.nD Cert.RefInSampleIdeal.τ).loc Cert.RefInSampleIdeal.main_arg2)
      ∧ r.2.mem ((c.tc : Thread Cert.RefInSampleIdeal.nD Cert.RefInSampleIdeal.τ).loc Cert.RefInSampleIdeal.main_arg3) = m ((c.tc : Thread Cert.RefInSampleIdeal.nD Cert.RefInSampleIdeal.τ).loc Cert.RefInSampleIdeal.main_arg3)
      ∧ r.2.mem ((c.tc : Thread Cert.RefInSampleIdeal.nD Cert.RefInSampleIdeal.τ).loc Cert.RefInSampleIdeal.main_arg4) = m ((c.tc : Thread Cert.RefInSampleIdeal.nD Cert.RefInSampleIdeal.τ).loc Cert.RefInSampleIdeal.main_arg4)
      ∧ r.2.mem ((c.tc : Thread Cert.RefInSampleIdeal.nD Cert.RefInSampleIdeal.τ).loc Cert.RefInSampleIdeal.main_arg5) = m ((c.tc : Thread Cert.RefInSampleIdeal.nD Cert.RefInSampleIdeal.τ).loc Cert.RefInSampleIdeal.main_arg5)
      ∧ r.2.mem ((c.tc : Thread Cert.RefInSampleIdeal.nD Cert.RefInSampleIdeal.τ).loc Cert.RefInSampleIdeal.main_arg6) = m ((c.tc : Thread Cert.RefInSampleIdeal.nD Cert.RefInSampleIdeal.τ).loc Cert.RefInSampleIdeal.main_arg6)
      ∧ r.2.mem ((c.tc : Thread Cert.RefInSampleIdeal.nD Cert.RefInSampleIdeal.τ).loc Cert.RefInSampleIdeal.main_arg7) = m ((c.tc : Thread Cert.RefInSampleIdeal.nD Cert.RefInSampleIdeal.τ).loc Cert.RefInSampleIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5)
      ∧ r.2.mem ((c.tc : Thread Cert.RefPostIdeal.nD Cert.RefPostIdeal.τ).loc Cert.RefPostIdeal.main_arg6) = m ((c.tc : Thread Cert.RefPostIdeal.nD Cert.RefPostIdeal.τ).loc Cert.RefPostIdeal.main_arg6)
      ∧ r.2.mem ((c.tc : Thread Cert.RefPostIdeal.nD Cert.RefPostIdeal.τ).loc Cert.RefPostIdeal.main_arg7) = m ((c.tc : Thread Cert.RefPostIdeal.nD Cert.RefPostIdeal.τ).loc Cert.RefPostIdeal.main_arg7)
      ∧ r.2.mem ((c.tc : Thread Cert.RefPostIdeal.nD Cert.RefPostIdeal.τ).loc Cert.RefPostIdeal.main_arg8) = m ((c.tc : Thread Cert.RefPostIdeal.nD Cert.RefPostIdeal.τ).loc Cert.RefPostIdeal.main_arg8)
      ∧ r.2.mem ((c.tc : Thread Cert.RefPostIdeal.nD Cert.RefPostIdeal.τ).loc Cert.RefPostIdeal.main_arg9) = m ((c.tc : Thread Cert.RefPostIdeal.nD Cert.RefPostIdeal.τ).loc Cert.RefPostIdeal.main_arg9)
      ∧ r.2.mem ((c.tc : Thread Cert.RefPostIdeal.nD Cert.RefPostIdeal.τ).loc Cert.RefPostIdeal.main_arg10) = m ((c.tc : Thread Cert.RefPostIdeal.nD Cert.RefPostIdeal.τ).loc Cert.RefPostIdeal.main_arg10)
      ∧ r.2.mem ((c.tc : Thread Cert.RefPostIdeal.nD Cert.RefPostIdeal.τ).loc Cert.RefPostIdeal.main_arg11) = m ((c.tc : Thread Cert.RefPostIdeal.nD Cert.RefPostIdeal.τ).loc Cert.RefPostIdeal.main_arg11)
      ∧ r.2.mem ((c.tc : Thread Cert.RefPostIdeal.nD Cert.RefPostIdeal.τ).loc Cert.RefPostIdeal.main_arg12) = m ((c.tc : Thread Cert.RefPostIdeal.nD Cert.RefPostIdeal.τ).loc Cert.RefPostIdeal.main_arg12))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8)
      ∧ r.2.mem ((c.tc : Thread Cert.PostSample.nD Cert.PostSample.τ).loc Cert.PostSample.main_arg9) = m ((c.tc : Thread Cert.PostSample.nD Cert.PostSample.τ).loc Cert.PostSample.main_arg9)
      ∧ r.2.mem ((c.tc : Thread Cert.PostSample.nD Cert.PostSample.τ).loc Cert.PostSample.main_arg10) = m ((c.tc : Thread Cert.PostSample.nD Cert.PostSample.τ).loc Cert.PostSample.main_arg10)
      ∧ r.2.mem ((c.tc : Thread Cert.PostSample.nD Cert.PostSample.τ).loc Cert.PostSample.main_arg11) = m ((c.tc : Thread Cert.PostSample.nD Cert.PostSample.τ).loc Cert.PostSample.main_arg11)
      ∧ r.2.mem ((c.tc : Thread Cert.PostSample.nD Cert.PostSample.τ).loc Cert.PostSample.main_arg12) = m ((c.tc : Thread Cert.PostSample.nD Cert.PostSample.τ).loc Cert.PostSample.main_arg12))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
      ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
      ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
      ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
      ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ r.2.sem = fun _ => 0)

def quiescent_RefPostSampleIdeal [hRefPostSampleIdeal : Cert.RefPostSampleIdeal.Facts] : Prop :=
  ∀ (m : (ℓ : Loc Cert.RefPostSampleIdeal.nD Cert.RefPostSampleIdeal.τ Cert.RefPostSampleIdeal.sig) → Buf (Elt Ideal) ℓ) (g : Dev Cert.RefPostSampleIdeal.nD → PrngReg), Pre_RefPostSampleIdeal m →
    θ_run (Cert.RefPostSampleIdeal.defs (F := Ideal)) (onTc (τ := Cert.RefPostSampleIdeal.τ) (Cert.RefPostSampleIdeal.main (F := Ideal))) ⟨m, fun _ => 0, g⟩ (fun r => (∀ c : Dev Cert.RefPostSampleIdeal.nD,
      r.2.mem ((c.tc : Thread Cert.RefPostSampleIdeal.nD Cert.RefPostSampleIdeal.τ).loc Cert.RefPostSampleIdeal.main_arg0) = m ((c.tc : Thread Cert.RefPostSampleIdeal.nD Cert.RefPostSampleIdeal.τ).loc Cert.RefPostSampleIdeal.main_arg0)
      ∧ r.2.mem ((c.tc : Thread Cert.RefPostSampleIdeal.nD Cert.RefPostSampleIdeal.τ).loc Cert.RefPostSampleIdeal.main_arg1) = m ((c.tc : Thread Cert.RefPostSampleIdeal.nD Cert.RefPostSampleIdeal.τ).loc Cert.RefPostSampleIdeal.main_arg1)
      ∧ r.2.mem ((c.tc : Thread Cert.RefPostSampleIdeal.nD Cert.RefPostSampleIdeal.τ).loc Cert.RefPostSampleIdeal.main_arg2) = m ((c.tc : Thread Cert.RefPostSampleIdeal.nD Cert.RefPostSampleIdeal.τ).loc Cert.RefPostSampleIdeal.main_arg2)
      ∧ r.2.mem ((c.tc : Thread Cert.RefPostSampleIdeal.nD Cert.RefPostSampleIdeal.τ).loc Cert.RefPostSampleIdeal.main_arg3) = m ((c.tc : Thread Cert.RefPostSampleIdeal.nD Cert.RefPostSampleIdeal.τ).loc Cert.RefPostSampleIdeal.main_arg3)
      ∧ r.2.mem ((c.tc : Thread Cert.RefPostSampleIdeal.nD Cert.RefPostSampleIdeal.τ).loc Cert.RefPostSampleIdeal.main_arg4) = m ((c.tc : Thread Cert.RefPostSampleIdeal.nD Cert.RefPostSampleIdeal.τ).loc Cert.RefPostSampleIdeal.main_arg4)
      ∧ r.2.mem ((c.tc : Thread Cert.RefPostSampleIdeal.nD Cert.RefPostSampleIdeal.τ).loc Cert.RefPostSampleIdeal.main_arg5) = m ((c.tc : Thread Cert.RefPostSampleIdeal.nD Cert.RefPostSampleIdeal.τ).loc Cert.RefPostSampleIdeal.main_arg5)
      ∧ r.2.mem ((c.tc : Thread Cert.RefPostSampleIdeal.nD Cert.RefPostSampleIdeal.τ).loc Cert.RefPostSampleIdeal.main_arg6) = m ((c.tc : Thread Cert.RefPostSampleIdeal.nD Cert.RefPostSampleIdeal.τ).loc Cert.RefPostSampleIdeal.main_arg6)
      ∧ r.2.mem ((c.tc : Thread Cert.RefPostSampleIdeal.nD Cert.RefPostSampleIdeal.τ).loc Cert.RefPostSampleIdeal.main_arg7) = m ((c.tc : Thread Cert.RefPostSampleIdeal.nD Cert.RefPostSampleIdeal.τ).loc Cert.RefPostSampleIdeal.main_arg7)
      ∧ r.2.mem ((c.tc : Thread Cert.RefPostSampleIdeal.nD Cert.RefPostSampleIdeal.τ).loc Cert.RefPostSampleIdeal.main_arg8) = m ((c.tc : Thread Cert.RefPostSampleIdeal.nD Cert.RefPostSampleIdeal.τ).loc Cert.RefPostSampleIdeal.main_arg8)
      ∧ r.2.mem ((c.tc : Thread Cert.RefPostSampleIdeal.nD Cert.RefPostSampleIdeal.τ).loc Cert.RefPostSampleIdeal.main_arg9) = m ((c.tc : Thread Cert.RefPostSampleIdeal.nD Cert.RefPostSampleIdeal.τ).loc Cert.RefPostSampleIdeal.main_arg9)
      ∧ r.2.mem ((c.tc : Thread Cert.RefPostSampleIdeal.nD Cert.RefPostSampleIdeal.τ).loc Cert.RefPostSampleIdeal.main_arg10) = m ((c.tc : Thread Cert.RefPostSampleIdeal.nD Cert.RefPostSampleIdeal.τ).loc Cert.RefPostSampleIdeal.main_arg10)
      ∧ r.2.mem ((c.tc : Thread Cert.RefPostSampleIdeal.nD Cert.RefPostSampleIdeal.τ).loc Cert.RefPostSampleIdeal.main_arg11) = m ((c.tc : Thread Cert.RefPostSampleIdeal.nD Cert.RefPostSampleIdeal.τ).loc Cert.RefPostSampleIdeal.main_arg11)
      ∧ r.2.mem ((c.tc : Thread Cert.RefPostSampleIdeal.nD Cert.RefPostSampleIdeal.τ).loc Cert.RefPostSampleIdeal.main_arg12) = m ((c.tc : Thread Cert.RefPostSampleIdeal.nD Cert.RefPostSampleIdeal.τ).loc Cert.RefPostSampleIdeal.main_arg12))
      ∧ r.2.sem = fun _ => 0)

def preserves_InProj_InProjIdeal : Prop :=
  True

def algebraic_InProjIdeal_RefInIdeal [hInProjIdeal : Cert.InProjIdeal.Facts] [hRefInIdeal : Cert.RefInIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInIdeal.nD Cert.RefInIdeal.τ Cert.RefInIdeal.sig) → Buf (Elt Ideal) ℓ) (g' : Dev Cert.RefInIdeal.nD → PrngReg), Pre_InProjIdeal m →
    (∀ c : Dev Cert.InProjIdeal.nD,
      m' ((c.tc : Thread Cert.RefInIdeal.nD Cert.RefInIdeal.τ).loc Cert.RefInIdeal.main_arg0) = m ((c.tc : Thread Cert.InProjIdeal.nD Cert.InProjIdeal.τ).loc Cert.InProjIdeal.main_arg0)
      ∧ m' ((c.tc : Thread Cert.RefInIdeal.nD Cert.RefInIdeal.τ).loc Cert.RefInIdeal.main_arg1) = m ((c.tc : Thread Cert.InProjIdeal.nD Cert.InProjIdeal.τ).loc Cert.InProjIdeal.main_arg1)
      ∧ m' ((c.tc : Thread Cert.RefInIdeal.nD Cert.RefInIdeal.τ).loc Cert.RefInIdeal.main_arg2) = m ((c.tc : Thread Cert.InProjIdeal.nD Cert.InProjIdeal.τ).loc Cert.InProjIdeal.main_arg2)
      ∧ m' ((c.tc : Thread Cert.RefInIdeal.nD Cert.RefInIdeal.τ).loc Cert.RefInIdeal.main_arg3) = m ((c.tc : Thread Cert.InProjIdeal.nD Cert.InProjIdeal.τ).loc Cert.InProjIdeal.main_arg3)
      ∧ m' ((c.tc : Thread Cert.RefInIdeal.nD Cert.RefInIdeal.τ).loc Cert.RefInIdeal.main_arg4) = m ((c.tc : Thread Cert.InProjIdeal.nD Cert.InProjIdeal.τ).loc Cert.InProjIdeal.main_arg4)
      ∧ m' ((c.tc : Thread Cert.RefInIdeal.nD Cert.RefInIdeal.τ).loc Cert.RefInIdeal.main_arg5) = m ((c.tc : Thread Cert.InProjIdeal.nD Cert.InProjIdeal.τ).loc Cert.InProjIdeal.main_arg5)
      ∧ m' ((c.tc : Thread Cert.RefInIdeal.nD Cert.RefInIdeal.τ).loc Cert.RefInIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v26_0)) (v1 : (c : Dev Cert.InProjIdeal.nD) → Buf (Elt Ideal) ((c.tc : Thread Cert.InProjIdeal.nD Cert.InProjIdeal.τ).loc Cert.InProjIdeal.main_v26_1)) (v2 : (c : Dev Cert.InProjIdeal.nD) → Buf (Elt Ideal) ((c.tc : Thread Cert.InProjIdeal.nD Cert.InProjIdeal.τ).loc Cert.InProjIdeal.main_v26_2)) (v3 : (c : Dev Cert.InProjIdeal.nD) → Buf (Elt Ideal) ((c.tc : Thread Cert.InProjIdeal.nD Cert.InProjIdeal.τ).loc Cert.InProjIdeal.main_v26_3)) (v4 : (c : Dev Cert.InProjIdeal.nD) → Buf (Elt Ideal) ((c.tc : Thread Cert.InProjIdeal.nD Cert.InProjIdeal.τ).loc Cert.InProjIdeal.main_v26_4)) (v5 : (c : Dev Cert.InProjIdeal.nD) → Buf (Elt Ideal) ((c.tc : Thread Cert.InProjIdeal.nD Cert.InProjIdeal.τ).loc Cert.InProjIdeal.main_v26_5)) (v6 : (c : Dev Cert.InProjIdeal.nD) → Buf (Elt Ideal) ((c.tc : Thread Cert.InProjIdeal.nD Cert.InProjIdeal.τ).loc Cert.InProjIdeal.main_v26_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v26_0) = v0 c
          ∧ r.2.mem ((c.tc : Thread Cert.InProjIdeal.nD Cert.InProjIdeal.τ).loc Cert.InProjIdeal.main_v26_1) = v1 c
          ∧ r.2.mem ((c.tc : Thread Cert.InProjIdeal.nD Cert.InProjIdeal.τ).loc Cert.InProjIdeal.main_v26_2) = v2 c
          ∧ r.2.mem ((c.tc : Thread Cert.InProjIdeal.nD Cert.InProjIdeal.τ).loc Cert.InProjIdeal.main_v26_3) = v3 c
          ∧ r.2.mem ((c.tc : Thread Cert.InProjIdeal.nD Cert.InProjIdeal.τ).loc Cert.InProjIdeal.main_v26_4) = v4 c
          ∧ r.2.mem ((c.tc : Thread Cert.InProjIdeal.nD Cert.InProjIdeal.τ).loc Cert.InProjIdeal.main_v26_5) = v5 c
          ∧ r.2.mem ((c.tc : Thread Cert.InProjIdeal.nD Cert.InProjIdeal.τ).loc Cert.InProjIdeal.main_v26_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v98) = v0 c
          ∧ r.2.mem ((c.tc : Thread Cert.RefInIdeal.nD Cert.RefInIdeal.τ).loc Cert.RefInIdeal.main_v99) = v1 c
          ∧ r.2.mem ((c.tc : Thread Cert.RefInIdeal.nD Cert.RefInIdeal.τ).loc Cert.RefInIdeal.main_v100) = v2 c
          ∧ r.2.mem ((c.tc : Thread Cert.RefInIdeal.nD Cert.RefInIdeal.τ).loc Cert.RefInIdeal.main_v102) = v3 c
          ∧ r.2.mem ((c.tc : Thread Cert.RefInIdeal.nD Cert.RefInIdeal.τ).loc Cert.RefInIdeal.main_v104) = v4 c
          ∧ r.2.mem ((c.tc : Thread Cert.RefInIdeal.nD Cert.RefInIdeal.τ).loc Cert.RefInIdeal.main_v106) = v5 c
          ∧ r.2.mem ((c.tc : Thread Cert.RefInIdeal.nD Cert.RefInIdeal.τ).loc Cert.RefInIdeal.main_v107) = v6 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6))

def preserves_InSample_InSampleIdeal : Prop :=
  True

def algebraic_InSampleIdeal_RefInSampleIdeal [hInSampleIdeal : Cert.InSampleIdeal.Facts] [hRefInSampleIdeal : Cert.RefInSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.RefInSampleIdeal.nD Cert.RefInSampleIdeal.τ Cert.RefInSampleIdeal.sig) → Buf (Elt Ideal) ℓ) (g' : Dev Cert.RefInSampleIdeal.nD → PrngReg), Pre_InSampleIdeal m →
    (∀ c : Dev Cert.InSampleIdeal.nD,
      m' ((c.tc : Thread Cert.RefInSampleIdeal.nD Cert.RefInSampleIdeal.τ).loc Cert.RefInSampleIdeal.main_arg0) = m ((c.tc : Thread Cert.InSampleIdeal.nD Cert.InSampleIdeal.τ).loc Cert.InSampleIdeal.main_arg0)
      ∧ m' ((c.tc : Thread Cert.RefInSampleIdeal.nD Cert.RefInSampleIdeal.τ).loc Cert.RefInSampleIdeal.main_arg1) = m ((c.tc : Thread Cert.InSampleIdeal.nD Cert.InSampleIdeal.τ).loc Cert.InSampleIdeal.main_arg1)
      ∧ m' ((c.tc : Thread Cert.RefInSampleIdeal.nD Cert.RefInSampleIdeal.τ).loc Cert.RefInSampleIdeal.main_arg2) = m ((c.tc : Thread Cert.InSampleIdeal.nD Cert.InSampleIdeal.τ).loc Cert.InSampleIdeal.main_arg2)
      ∧ m' ((c.tc : Thread Cert.RefInSampleIdeal.nD Cert.RefInSampleIdeal.τ).loc Cert.RefInSampleIdeal.main_arg3) = m ((c.tc : Thread Cert.InSampleIdeal.nD Cert.InSampleIdeal.τ).loc Cert.InSampleIdeal.main_arg3)
      ∧ m' ((c.tc : Thread Cert.RefInSampleIdeal.nD Cert.RefInSampleIdeal.τ).loc Cert.RefInSampleIdeal.main_arg4) = m ((c.tc : Thread Cert.InSampleIdeal.nD Cert.InSampleIdeal.τ).loc Cert.InSampleIdeal.main_arg4)
      ∧ m' ((c.tc : Thread Cert.RefInSampleIdeal.nD Cert.RefInSampleIdeal.τ).loc Cert.RefInSampleIdeal.main_arg5) = m ((c.tc : Thread Cert.InSampleIdeal.nD Cert.InSampleIdeal.τ).loc Cert.InSampleIdeal.main_arg5)
      ∧ m' ((c.tc : Thread Cert.RefInSampleIdeal.nD Cert.RefInSampleIdeal.τ).loc Cert.RefInSampleIdeal.main_arg6) = m ((c.tc : Thread Cert.InSampleIdeal.nD Cert.InSampleIdeal.τ).loc Cert.InSampleIdeal.main_arg6)
      ∧ m' ((c.tc : Thread Cert.RefInSampleIdeal.nD Cert.RefInSampleIdeal.τ).loc Cert.RefInSampleIdeal.main_arg7) = m ((c.tc : Thread Cert.InSampleIdeal.nD Cert.InSampleIdeal.τ).loc Cert.InSampleIdeal.main_arg7)) →
    ∃ (v0 : (c : Dev Cert.InSampleIdeal.nD) → Buf (Elt Ideal) ((c.tc : Thread Cert.InSampleIdeal.nD Cert.InSampleIdeal.τ).loc Cert.InSampleIdeal.main_v32_0)) (v1 : (c : Dev Cert.InSampleIdeal.nD) → Buf (Elt Ideal) ((c.tc : Thread Cert.InSampleIdeal.nD Cert.InSampleIdeal.τ).loc Cert.InSampleIdeal.main_v32_1)) (v2 : (c : Dev Cert.InSampleIdeal.nD) → Buf (Elt Ideal) ((c.tc : Thread Cert.InSampleIdeal.nD Cert.InSampleIdeal.τ).loc Cert.InSampleIdeal.main_v32_2)) (v3 : (c : Dev Cert.InSampleIdeal.nD) → Buf (Elt Ideal) ((c.tc : Thread Cert.InSampleIdeal.nD Cert.InSampleIdeal.τ).loc Cert.InSampleIdeal.main_v32_3)) (v4 : (c : Dev Cert.InSampleIdeal.nD) → Buf (Elt Ideal) ((c.tc : Thread Cert.InSampleIdeal.nD Cert.InSampleIdeal.τ).loc Cert.InSampleIdeal.main_v32_4)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v32_0) = v0 c
          ∧ r.2.mem ((c.tc : Thread Cert.InSampleIdeal.nD Cert.InSampleIdeal.τ).loc Cert.InSampleIdeal.main_v32_1) = v1 c
          ∧ r.2.mem ((c.tc : Thread Cert.InSampleIdeal.nD Cert.InSampleIdeal.τ).loc Cert.InSampleIdeal.main_v32_2) = v2 c
          ∧ r.2.mem ((c.tc : Thread Cert.InSampleIdeal.nD Cert.InSampleIdeal.τ).loc Cert.InSampleIdeal.main_v32_3) = v3 c
          ∧ r.2.mem ((c.tc : Thread Cert.InSampleIdeal.nD Cert.InSampleIdeal.τ).loc Cert.InSampleIdeal.main_v32_4) = v4 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
          ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
          ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7))
      ∧ θ_run (Cert.RefInSampleIdeal.defs (F := Ideal)) (onTc (τ := Cert.RefInSampleIdeal.τ) (Cert.RefInSampleIdeal.main (F := Ideal))) ⟨m', fun _ => 0, g'⟩ (fun r => ∀ c : Dev Cert.RefInSampleIdeal.nD,
          r.2.mem ((c.tc : Thread Cert.RefInSampleIdeal.nD Cert.RefInSampleIdeal.τ).loc Cert.RefInSampleIdeal.main_v95) = v0 c
          ∧ r.2.mem ((c.tc : Thread Cert.RefInSampleIdeal.nD Cert.RefInSampleIdeal.τ).loc Cert.RefInSampleIdeal.main_v96) = v1 c
          ∧ r.2.mem ((c.tc : Thread Cert.RefInSampleIdeal.nD Cert.RefInSampleIdeal.τ).loc Cert.RefInSampleIdeal.main_v97) = v2 c
          ∧ r.2.mem ((c.tc : Thread Cert.RefInSampleIdeal.nD Cert.RefInSampleIdeal.τ).loc Cert.RefInSampleIdeal.main_v99) = v3 c
          ∧ r.2.mem ((c.tc : Thread Cert.RefInSampleIdeal.nD Cert.RefInSampleIdeal.τ).loc Cert.RefInSampleIdeal.main_v100) = v4 c
          ∧ r.2.mem ((c.tc : Thread Cert.RefInSampleIdeal.nD Cert.RefInSampleIdeal.τ).loc Cert.RefInSampleIdeal.main_arg0) = m' ((c.tc : Thread Cert.RefInSampleIdeal.nD Cert.RefInSampleIdeal.τ).loc Cert.RefInSampleIdeal.main_arg0)
          ∧ r.2.mem ((c.tc : Thread Cert.RefInSampleIdeal.nD Cert.RefInSampleIdeal.τ).loc Cert.RefInSampleIdeal.main_arg1) = m' ((c.tc : Thread Cert.RefInSampleIdeal.nD Cert.RefInSampleIdeal.τ).loc Cert.RefInSampleIdeal.main_arg1)
          ∧ r.2.mem ((c.tc : Thread Cert.RefInSampleIdeal.nD Cert.RefInSampleIdeal.τ).loc Cert.RefInSampleIdeal.main_arg2) = m' ((c.tc : Thread Cert.RefInSampleIdeal.nD Cert.RefInSampleIdeal.τ).loc Cert.RefInSampleIdeal.main_arg2)
          ∧ r.2.mem ((c.tc : Thread Cert.RefInSampleIdeal.nD Cert.RefInSampleIdeal.τ).loc Cert.RefInSampleIdeal.main_arg3) = m' ((c.tc : Thread Cert.RefInSampleIdeal.nD Cert.RefInSampleIdeal.τ).loc Cert.RefInSampleIdeal.main_arg3)
          ∧ r.2.mem ((c.tc : Thread Cert.RefInSampleIdeal.nD Cert.RefInSampleIdeal.τ).loc Cert.RefInSampleIdeal.main_arg4) = m' ((c.tc : Thread Cert.RefInSampleIdeal.nD Cert.RefInSampleIdeal.τ).loc Cert.RefInSampleIdeal.main_arg4)
          ∧ r.2.mem ((c.tc : Thread Cert.RefInSampleIdeal.nD Cert.RefInSampleIdeal.τ).loc Cert.RefInSampleIdeal.main_arg5) = m' ((c.tc : Thread Cert.RefInSampleIdeal.nD Cert.RefInSampleIdeal.τ).loc Cert.RefInSampleIdeal.main_arg5)
          ∧ r.2.mem ((c.tc : Thread Cert.RefInSampleIdeal.nD Cert.RefInSampleIdeal.τ).loc Cert.RefInSampleIdeal.main_arg6) = m' ((c.tc : Thread Cert.RefInSampleIdeal.nD Cert.RefInSampleIdeal.τ).loc Cert.RefInSampleIdeal.main_arg6)
          ∧ r.2.mem ((c.tc : Thread Cert.RefInSampleIdeal.nD Cert.RefInSampleIdeal.τ).loc Cert.RefInSampleIdeal.main_arg7) = m' ((c.tc : Thread Cert.RefInSampleIdeal.nD Cert.RefInSampleIdeal.τ).loc Cert.RefInSampleIdeal.main_arg7))

def preserves_Post_PostIdeal : Prop :=
  True

def algebraic_PostIdeal_RefPostIdeal [hPostIdeal : Cert.PostIdeal.Facts] [hRefPostIdeal : Cert.RefPostIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)
      ∧ m' ((c.tc : Thread Cert.RefPostIdeal.nD Cert.RefPostIdeal.τ).loc Cert.RefPostIdeal.main_arg6) = m ((c.tc : Thread Cert.PostIdeal.nD Cert.PostIdeal.τ).loc Cert.PostIdeal.main_arg6)
      ∧ m' ((c.tc : Thread Cert.RefPostIdeal.nD Cert.RefPostIdeal.τ).loc Cert.RefPostIdeal.main_arg7) = m ((c.tc : Thread Cert.PostIdeal.nD Cert.PostIdeal.τ).loc Cert.PostIdeal.main_arg7)
      ∧ m' ((c.tc : Thread Cert.RefPostIdeal.nD Cert.RefPostIdeal.τ).loc Cert.RefPostIdeal.main_arg8) = m ((c.tc : Thread Cert.PostIdeal.nD Cert.PostIdeal.τ).loc Cert.PostIdeal.main_arg8)
      ∧ m' ((c.tc : Thread Cert.RefPostIdeal.nD Cert.RefPostIdeal.τ).loc Cert.RefPostIdeal.main_arg9) = m ((c.tc : Thread Cert.PostIdeal.nD Cert.PostIdeal.τ).loc Cert.PostIdeal.main_arg9)
      ∧ m' ((c.tc : Thread Cert.RefPostIdeal.nD Cert.RefPostIdeal.τ).loc Cert.RefPostIdeal.main_arg10) = m ((c.tc : Thread Cert.PostIdeal.nD Cert.PostIdeal.τ).loc Cert.PostIdeal.main_arg10)
      ∧ m' ((c.tc : Thread Cert.RefPostIdeal.nD Cert.RefPostIdeal.τ).loc Cert.RefPostIdeal.main_arg11) = m ((c.tc : Thread Cert.PostIdeal.nD Cert.PostIdeal.τ).loc Cert.PostIdeal.main_arg11)
      ∧ m' ((c.tc : Thread Cert.RefPostIdeal.nD Cert.RefPostIdeal.τ).loc Cert.RefPostIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v21)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v21) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v71) = v0 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5)
          ∧ r.2.mem ((c.tc : Thread Cert.RefPostIdeal.nD Cert.RefPostIdeal.τ).loc Cert.RefPostIdeal.main_arg6) = m' ((c.tc : Thread Cert.RefPostIdeal.nD Cert.RefPostIdeal.τ).loc Cert.RefPostIdeal.main_arg6)
          ∧ r.2.mem ((c.tc : Thread Cert.RefPostIdeal.nD Cert.RefPostIdeal.τ).loc Cert.RefPostIdeal.main_arg7) = m' ((c.tc : Thread Cert.RefPostIdeal.nD Cert.RefPostIdeal.τ).loc Cert.RefPostIdeal.main_arg7)
          ∧ r.2.mem ((c.tc : Thread Cert.RefPostIdeal.nD Cert.RefPostIdeal.τ).loc Cert.RefPostIdeal.main_arg8) = m' ((c.tc : Thread Cert.RefPostIdeal.nD Cert.RefPostIdeal.τ).loc Cert.RefPostIdeal.main_arg8)
          ∧ r.2.mem ((c.tc : Thread Cert.RefPostIdeal.nD Cert.RefPostIdeal.τ).loc Cert.RefPostIdeal.main_arg9) = m' ((c.tc : Thread Cert.RefPostIdeal.nD Cert.RefPostIdeal.τ).loc Cert.RefPostIdeal.main_arg9)
          ∧ r.2.mem ((c.tc : Thread Cert.RefPostIdeal.nD Cert.RefPostIdeal.τ).loc Cert.RefPostIdeal.main_arg10) = m' ((c.tc : Thread Cert.RefPostIdeal.nD Cert.RefPostIdeal.τ).loc Cert.RefPostIdeal.main_arg10)
          ∧ r.2.mem ((c.tc : Thread Cert.RefPostIdeal.nD Cert.RefPostIdeal.τ).loc Cert.RefPostIdeal.main_arg11) = m' ((c.tc : Thread Cert.RefPostIdeal.nD Cert.RefPostIdeal.τ).loc Cert.RefPostIdeal.main_arg11)
          ∧ r.2.mem ((c.tc : Thread Cert.RefPostIdeal.nD Cert.RefPostIdeal.τ).loc Cert.RefPostIdeal.main_arg12) = m' ((c.tc : Thread Cert.RefPostIdeal.nD Cert.RefPostIdeal.τ).loc Cert.RefPostIdeal.main_arg12))

def preserves_PostSample_PostSampleIdeal : Prop :=
  True

def algebraic_PostSampleIdeal_RefPostSampleIdeal [hPostSampleIdeal : Cert.PostSampleIdeal.Facts] [hRefPostSampleIdeal : Cert.RefPostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.RefPostSampleIdeal.nD Cert.RefPostSampleIdeal.τ Cert.RefPostSampleIdeal.sig) → Buf (Elt Ideal) ℓ) (g' : Dev Cert.RefPostSampleIdeal.nD → PrngReg), Pre_PostSampleIdeal m →
    (∀ c : Dev Cert.PostSampleIdeal.nD,
      m' ((c.tc : Thread Cert.RefPostSampleIdeal.nD Cert.RefPostSampleIdeal.τ).loc Cert.RefPostSampleIdeal.main_arg0) = m ((c.tc : Thread Cert.PostSampleIdeal.nD Cert.PostSampleIdeal.τ).loc Cert.PostSampleIdeal.main_arg0)
      ∧ m' ((c.tc : Thread Cert.RefPostSampleIdeal.nD Cert.RefPostSampleIdeal.τ).loc Cert.RefPostSampleIdeal.main_arg1) = m ((c.tc : Thread Cert.PostSampleIdeal.nD Cert.PostSampleIdeal.τ).loc Cert.PostSampleIdeal.main_arg1)
      ∧ m' ((c.tc : Thread Cert.RefPostSampleIdeal.nD Cert.RefPostSampleIdeal.τ).loc Cert.RefPostSampleIdeal.main_arg2) = m ((c.tc : Thread Cert.PostSampleIdeal.nD Cert.PostSampleIdeal.τ).loc Cert.PostSampleIdeal.main_arg2)
      ∧ m' ((c.tc : Thread Cert.RefPostSampleIdeal.nD Cert.RefPostSampleIdeal.τ).loc Cert.RefPostSampleIdeal.main_arg3) = m ((c.tc : Thread Cert.PostSampleIdeal.nD Cert.PostSampleIdeal.τ).loc Cert.PostSampleIdeal.main_arg3)
      ∧ m' ((c.tc : Thread Cert.RefPostSampleIdeal.nD Cert.RefPostSampleIdeal.τ).loc Cert.RefPostSampleIdeal.main_arg4) = m ((c.tc : Thread Cert.PostSampleIdeal.nD Cert.PostSampleIdeal.τ).loc Cert.PostSampleIdeal.main_arg4)
      ∧ m' ((c.tc : Thread Cert.RefPostSampleIdeal.nD Cert.RefPostSampleIdeal.τ).loc Cert.RefPostSampleIdeal.main_arg5) = m ((c.tc : Thread Cert.PostSampleIdeal.nD Cert.PostSampleIdeal.τ).loc Cert.PostSampleIdeal.main_arg5)
      ∧ m' ((c.tc : Thread Cert.RefPostSampleIdeal.nD Cert.RefPostSampleIdeal.τ).loc Cert.RefPostSampleIdeal.main_arg6) = m ((c.tc : Thread Cert.PostSampleIdeal.nD Cert.PostSampleIdeal.τ).loc Cert.PostSampleIdeal.main_arg6)
      ∧ m' ((c.tc : Thread Cert.RefPostSampleIdeal.nD Cert.RefPostSampleIdeal.τ).loc Cert.RefPostSampleIdeal.main_arg7) = m ((c.tc : Thread Cert.PostSampleIdeal.nD Cert.PostSampleIdeal.τ).loc Cert.PostSampleIdeal.main_arg7)
      ∧ m' ((c.tc : Thread Cert.RefPostSampleIdeal.nD Cert.RefPostSampleIdeal.τ).loc Cert.RefPostSampleIdeal.main_arg8) = m ((c.tc : Thread Cert.PostSampleIdeal.nD Cert.PostSampleIdeal.τ).loc Cert.PostSampleIdeal.main_arg8)
      ∧ m' ((c.tc : Thread Cert.RefPostSampleIdeal.nD Cert.RefPostSampleIdeal.τ).loc Cert.RefPostSampleIdeal.main_arg9) = m ((c.tc : Thread Cert.PostSampleIdeal.nD Cert.PostSampleIdeal.τ).loc Cert.PostSampleIdeal.main_arg9)
      ∧ m' ((c.tc : Thread Cert.RefPostSampleIdeal.nD Cert.RefPostSampleIdeal.τ).loc Cert.RefPostSampleIdeal.main_arg10) = m ((c.tc : Thread Cert.PostSampleIdeal.nD Cert.PostSampleIdeal.τ).loc Cert.PostSampleIdeal.main_arg10)
      ∧ m' ((c.tc : Thread Cert.RefPostSampleIdeal.nD Cert.RefPostSampleIdeal.τ).loc Cert.RefPostSampleIdeal.main_arg11) = m ((c.tc : Thread Cert.PostSampleIdeal.nD Cert.PostSampleIdeal.τ).loc Cert.PostSampleIdeal.main_arg11)
      ∧ m' ((c.tc : Thread Cert.RefPostSampleIdeal.nD Cert.RefPostSampleIdeal.τ).loc Cert.RefPostSampleIdeal.main_arg12) = m ((c.tc : Thread Cert.PostSampleIdeal.nD Cert.PostSampleIdeal.τ).loc Cert.PostSampleIdeal.main_arg12)) →
    ∃ (v0 : (c : Dev Cert.PostSampleIdeal.nD) → Buf (Elt Ideal) ((c.tc : Thread Cert.PostSampleIdeal.nD Cert.PostSampleIdeal.τ).loc Cert.PostSampleIdeal.main_v21)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v21) = v0 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
          ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
          ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
          ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
          ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ θ_run (Cert.RefPostSampleIdeal.defs (F := Ideal)) (onTc (τ := Cert.RefPostSampleIdeal.τ) (Cert.RefPostSampleIdeal.main (F := Ideal))) ⟨m', fun _ => 0, g'⟩ (fun r => ∀ c : Dev Cert.RefPostSampleIdeal.nD,
          r.2.mem ((c.tc : Thread Cert.RefPostSampleIdeal.nD Cert.RefPostSampleIdeal.τ).loc Cert.RefPostSampleIdeal.main_v71) = v0 c
          ∧ r.2.mem ((c.tc : Thread Cert.RefPostSampleIdeal.nD Cert.RefPostSampleIdeal.τ).loc Cert.RefPostSampleIdeal.main_arg0) = m' ((c.tc : Thread Cert.RefPostSampleIdeal.nD Cert.RefPostSampleIdeal.τ).loc Cert.RefPostSampleIdeal.main_arg0)
          ∧ r.2.mem ((c.tc : Thread Cert.RefPostSampleIdeal.nD Cert.RefPostSampleIdeal.τ).loc Cert.RefPostSampleIdeal.main_arg1) = m' ((c.tc : Thread Cert.RefPostSampleIdeal.nD Cert.RefPostSampleIdeal.τ).loc Cert.RefPostSampleIdeal.main_arg1)
          ∧ r.2.mem ((c.tc : Thread Cert.RefPostSampleIdeal.nD Cert.RefPostSampleIdeal.τ).loc Cert.RefPostSampleIdeal.main_arg2) = m' ((c.tc : Thread Cert.RefPostSampleIdeal.nD Cert.RefPostSampleIdeal.τ).loc Cert.RefPostSampleIdeal.main_arg2)
          ∧ r.2.mem ((c.tc : Thread Cert.RefPostSampleIdeal.nD Cert.RefPostSampleIdeal.τ).loc Cert.RefPostSampleIdeal.main_arg3) = m' ((c.tc : Thread Cert.RefPostSampleIdeal.nD Cert.RefPostSampleIdeal.τ).loc Cert.RefPostSampleIdeal.main_arg3)
          ∧ r.2.mem ((c.tc : Thread Cert.RefPostSampleIdeal.nD Cert.RefPostSampleIdeal.τ).loc Cert.RefPostSampleIdeal.main_arg4) = m' ((c.tc : Thread Cert.RefPostSampleIdeal.nD Cert.RefPostSampleIdeal.τ).loc Cert.RefPostSampleIdeal.main_arg4)
          ∧ r.2.mem ((c.tc : Thread Cert.RefPostSampleIdeal.nD Cert.RefPostSampleIdeal.τ).loc Cert.RefPostSampleIdeal.main_arg5) = m' ((c.tc : Thread Cert.RefPostSampleIdeal.nD Cert.RefPostSampleIdeal.τ).loc Cert.RefPostSampleIdeal.main_arg5)
          ∧ r.2.mem ((c.tc : Thread Cert.RefPostSampleIdeal.nD Cert.RefPostSampleIdeal.τ).loc Cert.RefPostSampleIdeal.main_arg6) = m' ((c.tc : Thread Cert.RefPostSampleIdeal.nD Cert.RefPostSampleIdeal.τ).loc Cert.RefPostSampleIdeal.main_arg6)
          ∧ r.2.mem ((c.tc : Thread Cert.RefPostSampleIdeal.nD Cert.RefPostSampleIdeal.τ).loc Cert.RefPostSampleIdeal.main_arg7) = m' ((c.tc : Thread Cert.RefPostSampleIdeal.nD Cert.RefPostSampleIdeal.τ).loc Cert.RefPostSampleIdeal.main_arg7)
          ∧ r.2.mem ((c.tc : Thread Cert.RefPostSampleIdeal.nD Cert.RefPostSampleIdeal.τ).loc Cert.RefPostSampleIdeal.main_arg8) = m' ((c.tc : Thread Cert.RefPostSampleIdeal.nD Cert.RefPostSampleIdeal.τ).loc Cert.RefPostSampleIdeal.main_arg8)
          ∧ r.2.mem ((c.tc : Thread Cert.RefPostSampleIdeal.nD Cert.RefPostSampleIdeal.τ).loc Cert.RefPostSampleIdeal.main_arg9) = m' ((c.tc : Thread Cert.RefPostSampleIdeal.nD Cert.RefPostSampleIdeal.τ).loc Cert.RefPostSampleIdeal.main_arg9)
          ∧ r.2.mem ((c.tc : Thread Cert.RefPostSampleIdeal.nD Cert.RefPostSampleIdeal.τ).loc Cert.RefPostSampleIdeal.main_arg10) = m' ((c.tc : Thread Cert.RefPostSampleIdeal.nD Cert.RefPostSampleIdeal.τ).loc Cert.RefPostSampleIdeal.main_arg10)
          ∧ r.2.mem ((c.tc : Thread Cert.RefPostSampleIdeal.nD Cert.RefPostSampleIdeal.τ).loc Cert.RefPostSampleIdeal.main_arg11) = m' ((c.tc : Thread Cert.RefPostSampleIdeal.nD Cert.RefPostSampleIdeal.τ).loc Cert.RefPostSampleIdeal.main_arg11)
          ∧ r.2.mem ((c.tc : Thread Cert.RefPostSampleIdeal.nD Cert.RefPostSampleIdeal.τ).loc Cert.RefPostSampleIdeal.main_arg12) = m' ((c.tc : Thread Cert.RefPostSampleIdeal.nD Cert.RefPostSampleIdeal.τ).loc Cert.RefPostSampleIdeal.main_arg12))

def Claim : Prop :=
  ∃ (hInProj : Cert.InProj.Facts) (hInProjIdeal : Cert.InProjIdeal.Facts) (hRefInIdeal : Cert.RefInIdeal.Facts) (hInSample : Cert.InSample.Facts) (hInSampleIdeal : Cert.InSampleIdeal.Facts) (hRefInSampleIdeal : Cert.RefInSampleIdeal.Facts) (hPost : Cert.Post.Facts) (hPostIdeal : Cert.PostIdeal.Facts) (hRefPostIdeal : Cert.RefPostIdeal.Facts) (hPostSample : Cert.PostSample.Facts) (hPostSampleIdeal : Cert.PostSampleIdeal.Facts) (hRefPostSampleIdeal : Cert.RefPostSampleIdeal.Facts),
    quiescent_InProj (hInProj := hInProj)
    ∧ quiescent_InProjIdeal (hInProjIdeal := hInProjIdeal)
    ∧ quiescent_RefInIdeal (hRefInIdeal := hRefInIdeal)
    ∧ quiescent_InSample (hInSample := hInSample)
    ∧ quiescent_InSampleIdeal (hInSampleIdeal := hInSampleIdeal)
    ∧ quiescent_RefInSampleIdeal (hRefInSampleIdeal := hRefInSampleIdeal)
    ∧ quiescent_Post (hPost := hPost)
    ∧ quiescent_PostIdeal (hPostIdeal := hPostIdeal)
    ∧ quiescent_RefPostIdeal (hRefPostIdeal := hRefPostIdeal)
    ∧ quiescent_PostSample (hPostSample := hPostSample)
    ∧ quiescent_PostSampleIdeal (hPostSampleIdeal := hPostSampleIdeal)
    ∧ quiescent_RefPostSampleIdeal (hRefPostSampleIdeal := hRefPostSampleIdeal)
    ∧ preserves_InProj_InProjIdeal
    ∧ algebraic_InProjIdeal_RefInIdeal (hInProjIdeal := hInProjIdeal) (hRefInIdeal := hRefInIdeal)
    ∧ preserves_InSample_InSampleIdeal
    ∧ algebraic_InSampleIdeal_RefInSampleIdeal (hInSampleIdeal := hInSampleIdeal) (hRefInSampleIdeal := hRefInSampleIdeal)
    ∧ preserves_Post_PostIdeal
    ∧ algebraic_PostIdeal_RefPostIdeal (hPostIdeal := hPostIdeal) (hRefPostIdeal := hRefPostIdeal)
    ∧ preserves_PostSample_PostSampleIdeal
    ∧ algebraic_PostSampleIdeal_RefPostSampleIdeal (hPostSampleIdeal := hPostSampleIdeal) (hRefPostSampleIdeal := hRefPostSampleIdeal)
-- ==== InProj.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x64 : Shape := ⟨2, ![1, 64]⟩
abbrev S1x3x512 : Shape := ⟨3, ![1, 3, 512]⟩
abbrev S1x512 : Shape := ⟨2, ![1, 512]⟩
abbrev S16384x1024 : Shape := ⟨2, ![16384, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S1024x3072 : Shape := ⟨2, ![1024, 3072]⟩
abbrev S64 : Shape := ⟨1, ![64]⟩
abbrev S8x64 : Shape := ⟨2, ![8, 64]⟩
abbrev S512 : Shape := ⟨1, ![512]⟩
abbrev S3x512 : Shape := ⟨2, ![3, 512]⟩
abbrev S16384x512 : Shape := ⟨2, ![16384, 512]⟩
abbrev S4x512x4096 : Shape := ⟨3, ![4, 512, 4096]⟩
abbrev S4x8x512 : Shape := ⟨3, ![4, 8, 512]⟩
abbrev S512x1024 : Shape := ⟨2, ![512, 1024]⟩
abbrev S512x512 : Shape := ⟨2, ![512, 512]⟩
abbrev S1x512x512 : Shape := ⟨3, ![1, 512, 512]⟩
abbrev S1x8x512 : Shape := ⟨3, ![1, 8, 512]⟩
abbrev S520x512 : Shape := ⟨2, ![520, 512]⟩
abbrev S512x1 : Shape := ⟨2, ![512, 1]⟩
abbrev S1024x512 : Shape := ⟨2, ![1024, 512]⟩
abbrev S512x256 : Shape := ⟨2, ![512, 256]⟩
abbrev S8x512 : Shape := ⟨2, ![8, 512]⟩

abbrev nBuf : Space → Nat
  | .hbm => 57
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3072, .f32⟩
  | .hbm, ⟨3, _⟩ => ⟨S1x64, .f32⟩
  | .hbm, ⟨4, _⟩ => ⟨S1x64, .f32⟩
  | .hbm, ⟨5, _⟩ => ⟨S1x3x512, .f32⟩
  | .hbm, ⟨6, _⟩ => ⟨S1x512, .f32⟩
  | .hbm, ⟨7, _⟩ => ⟨S16384x1024, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S1x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S256x256, .bf16⟩
  | .hbm, ⟨33, _⟩ => ⟨S1024, .f32⟩
  | .hbm, ⟨34, _⟩ => ⟨S1x1024, .f32⟩
  | .hbm, ⟨35, _⟩ => ⟨S1024x3072, .f32⟩
  | .hbm, ⟨36, _⟩ => ⟨S1024x3072, .bf16⟩
  | .hbm, ⟨37, _⟩ => ⟨S64, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1x512, .f32⟩
  | .hbm, ⟨42, _⟩ => ⟨S64, .f32⟩
  | .hbm, ⟨43, _⟩ => ⟨S1x64, .f32⟩
  | .hbm, ⟨44, _⟩ => ⟨S8x64, .f32⟩
  | .hbm, ⟨45, _⟩ => ⟨S512, .f32⟩
  | .hbm, ⟨46, _⟩ => ⟨S1x512, .f32⟩
  | .hbm, ⟨47, _⟩ => ⟨S3x512, .f32⟩
  | .hbm, ⟨48, _⟩ => ⟨S512, .f32⟩
  | .hbm, ⟨49, _⟩ => ⟨S1x512, .f32⟩
  | .hbm, ⟨50, _⟩ => ⟨S16384x512, .bf16⟩
  | .hbm, ⟨51, _⟩ => ⟨S4x512x4096, .f32⟩
  | .hbm, ⟨52, _⟩ => ⟨S4x512x4096, .f32⟩
  | .hbm, ⟨53, _⟩ => ⟨S16384x512, .bf16⟩
  | .hbm, ⟨54, _⟩ => ⟨S16384x512, .bf16⟩
  | .hbm, ⟨55, _⟩ => ⟨S16384x512, .bf16⟩
  | .hbm, ⟨56, _⟩ => ⟨S4x8x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S3x512, .f32⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x8x512, .f32⟩
  | .local _ .vmem, ⟨22, _⟩ => ⟨S1x8x512, .f32⟩
  | .local _ .vmem, ⟨23, _⟩ => ⟨S520x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26_0 : Ref sig .tc := ⟨.hbm, 50, rfl⟩
abbrev main_v26_1 : Ref sig .tc := ⟨.hbm, 51, rfl⟩
abbrev main_v26_2 : Ref sig .tc := ⟨.hbm, 52, rfl⟩
abbrev main_v26_3 : Ref sig .tc := ⟨.hbm, 53, rfl⟩
abbrev main_v26_4 : Ref sig .tc := ⟨.hbm, 54, rfl⟩
abbrev main_v26_5 : Ref sig .tc := ⟨.hbm, 55, rfl⟩
abbrev main_v26_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RefInIdeal.lean ====
abbrev S4x4096x1024 : Shape := ⟨3, ![4, 4096, 1024]⟩
abbrev S1x1024 : Shape := ⟨2, ![1, 1024]⟩
abbrev S1x1024x3072 : Shape := ⟨3, ![1, 1024, 3072]⟩
abbrev S1x64 : Shape := ⟨2, ![1, 64]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3072 : Shape := ⟨2, ![1024, 3072]⟩
abbrev S64 : Shape := ⟨1, ![64]⟩
abbrev S4x4096x3072 : Shape := ⟨3, ![4, 4096, 3072]⟩
abbrev S4x4096x512 : Shape := ⟨3, ![4, 4096, 512]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x2x512 : Shape := ⟨3, ![4, 2, 512]⟩
abbrev S3x512 : Shape := ⟨2, ![3, 512]⟩
abbrev S4x4098x512 : Shape := ⟨3, ![4, 4098, 512]⟩
abbrev S512 : Shape := ⟨1, ![512]⟩
abbrev S1x1x512 : Shape := ⟨3, ![1, 1, 512]⟩
abbrev S16384x512 : Shape := ⟨2, ![16384, 512]⟩
abbrev S4x512x4096 : Shape := ⟨3, ![4, 512, 4096]⟩
abbrev S4x8x512 : Shape := ⟨3, ![4, 8, 512]⟩

abbrev nBuf : Space → Nat
  | .hbm => 129
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x3072, .f32⟩
  | 3 => ⟨S1x64, .f32⟩
  | 4 => ⟨S1x64, .f32⟩
  | 5 => ⟨S1x3x512, .f32⟩
  | 6 => ⟨S1x512, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1024x3072, .f32⟩
  | 25 => ⟨S64, .f32⟩
  | 26 => ⟨S64, .f32⟩
  | 27 => ⟨S4x4096x3072, .f32⟩
  | 28 => ⟨S4x4096x512, .f32⟩
  | 29 => ⟨S4x4096x512, .f32⟩
  | 30 => ⟨S4x4096x512, .f32⟩
  | 31 => ⟨S4x4096x512, .f32⟩
  | 32 => ⟨S4x4096x512, .f32⟩
  | 33 => ⟨S4x4096x512, .f32⟩
  | 34 => ⟨S4x4096x8x64, .f32⟩
  | 35 => ⟨S4x4096x8x64, .f32⟩
  | 36 => ⟨S_, .f32⟩
  | 37 => ⟨S4x4096x8, .f32⟩
  | 38 => ⟨S4x4096x8x1, .f32⟩
  | 39 => ⟨S_, .f32⟩
  | 40 => ⟨S4x4096x8x1, .f32⟩
  | 41 => ⟨S4x4096x8x1, .f32⟩
  | 42 => ⟨S_, .f32⟩
  | 43 => ⟨S4x4096x8x1, .f32⟩
  | 44 => ⟨S4x4096x8x1, .f32⟩
  | 45 => ⟨S4x4096x8x1, .f32⟩
  | 46 => ⟨S4x4096x8x64, .f32⟩
  | 47 => ⟨S4x4096x8x64, .f32⟩
  | 48 => ⟨S1x1x1x64, .f32⟩
  | 49 => ⟨S4x4096x8x64, .f32⟩
  | 50 => ⟨S4x4096x8x64, .f32⟩
  | 51 => ⟨S4x4096x8x64, .f32⟩
  | 52 => ⟨S4x4096x8x64, .f32⟩
  | 53 => ⟨S_, .f32⟩
  | 54 => ⟨S4x4096x8, .f32⟩
  | 55 => ⟨S4x4096x8x1, .f32⟩
  | 56 => ⟨S_, .f32⟩
  | 57 => ⟨S4x4096x8x1, .f32⟩
  | 58 => ⟨S4x4096x8x1, .f32⟩
  | 59 => ⟨S_, .f32⟩
  | 60 => ⟨S4x4096x8x1, .f32⟩
  | 61 => ⟨S4x4096x8x1, .f32⟩
  | 62 => ⟨S4x4096x8x1, .f32⟩
  | 63 => ⟨S4x4096x8x64, .f32⟩
  | 64 => ⟨S4x4096x8x64, .f32⟩
  | 65 => ⟨S1x1x1x64, .f32⟩
  | 66 => ⟨S4x4096x8x64, .f32⟩
  | 67 => ⟨S4x4096x8x64, .f32⟩
  | 68 => ⟨S4x4096x8x64, .f32⟩
  | 69 => ⟨S4x4096x512, .f32⟩
  | 70 => ⟨S_, .f32⟩
  | 71 => ⟨S4x2x512, .f32⟩
  | 72 => ⟨S3x512, .f32⟩
  | 73 => ⟨S4x4098x512, .f32⟩
  | 74 => ⟨S1x512, .f32⟩
  | 75 => ⟨S512, .f32⟩
  | 76 => ⟨S4x4096x512, .f32⟩
  | 77 => ⟨S1x1x512, .f32⟩
  | 78 => ⟨S4x4096x512, .f32⟩
  | 79 => ⟨S4x4096x512, .f32⟩
  | 80 => ⟨S1x512, .f32⟩
  | 81 => ⟨S512, .f32⟩
  | 82 => ⟨S4x4096x512, .f32⟩
  | 83 => ⟨S1x1x512, .f32⟩
  | 84 => ⟨S4x4096x512, .f32⟩
  | 85 => ⟨S4x4096x512, .f32⟩
  | 86 => ⟨S4x4096x512, .f32⟩
  | 87 => ⟨S1x512, .f32⟩
  | 88 => ⟨S512, .f32⟩
  | 89 => ⟨S4x4096x512, .f32⟩
  | 90 => ⟨S1x1x512, .f32⟩
  | 91 => ⟨S4x4096x512, .f32⟩
  | 92 => ⟨S4x4096x512, .f32⟩
  | 93 => ⟨S4x4096x512, .f32⟩
  | 94 => ⟨S4x2x512, .f32⟩
  | 95 => ⟨S4x4096x512, .f32⟩
  | 96 => ⟨S512, .f32⟩
  | 97 => ⟨S4x4096x512, .f32⟩
  | 98 => ⟨S_, .f32⟩
  | 99 => ⟨S4x4096, .f32⟩
  | 100 => ⟨S4x4096x1, .f32⟩
  | 101 => ⟨S_, .f32⟩
  | 102 => ⟨S4x4096x1, .f32⟩
  | 103 => ⟨S4x4096x1, .f32⟩
  | 104 => ⟨S_, .f32⟩
  | 105 => ⟨S4x4096x1, .f32⟩
  | 106 => ⟨S4x4096x1, .f32⟩
  | 107 => ⟨S4x4096x1, .f32⟩
  | 108 => ⟨S4x4096x512, .f32⟩
  | 109 => ⟨S4x4096x512, .f32⟩
  | 110 => ⟨S1x1x512, .f32⟩
  | 111 => ⟨S4x4096x512, .f32⟩
  | 112 => ⟨S4x4096x512, .f32⟩
  | 113 => ⟨S16384x512, .f32⟩
  | 114 => ⟨S_, .f32⟩
  | 115 => ⟨S16384x512, .f32⟩
  | 116 => ⟨S16384x512, .f32⟩
  | 117 => ⟨S4x4096x512, .f32⟩
  | 118 => ⟨S4x4096x512, .f32⟩
  | 119 => ⟨S16384x512, .bf16⟩
  | 120 => ⟨S4x512x4096, .f32⟩
  | 121 => ⟨S4x512x4096, .f32⟩
  | 122 => ⟨S16384x512, .f32⟩
  | 123 => ⟨S16384x512, .bf16⟩
  | 124 => ⟨S16384x512, .f32⟩
  | 125 => ⟨S16384x512, .bf16⟩
  | 126 => ⟨S16384x512, .f32⟩
  | 127 => ⟨S16384x512, .bf16⟩
  | _ => ⟨S4x4096x1024, .f32⟩

abbrev hbmTy0_1 (i : Nat) : BufTy := match i % 128 with
  | 0 => ⟨S4x8x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_12 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩

abbrev nD : Nat := 1
abbrev τ : Topo := Topo.v7x

variable {F : FTy → Type} [FloatOps F]
-- ==== InSample.lean ====
abbrev S128x1x1024 : Shape := ⟨3, ![128, 1, 1024]⟩
abbrev S1x128x2x512 : Shape := ⟨4, ![1, 128, 2, 512]⟩
abbrev S1x1024 : Shape := ⟨2, ![1, 1024]⟩
abbrev S1x1024x3072 : Shape := ⟨3, ![1, 1024, 3072]⟩
abbrev S1x64 : Shape := ⟨2, ![1, 64]⟩
abbrev S1x3x512 : Shape := ⟨3, ![1, 3, 512]⟩
abbrev S1x512 : Shape := ⟨2, ![1, 512]⟩
abbrev S128x1024 : Shape := ⟨2, ![128, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1024 : Shape := ⟨1, ![1024]⟩
abbrev S1024x3072 : Shape := ⟨2, ![1024, 3072]⟩
abbrev S64 : Shape := ⟨1, ![64]⟩
abbrev S8x64 : Shape := ⟨2, ![8, 64]⟩
abbrev S512 : Shape := ⟨1, ![512]⟩
abbrev S3x512 : Shape := ⟨2, ![3, 512]⟩
abbrev S128x2x512 : Shape := ⟨3, ![128, 2, 512]⟩
abbrev S128x1x512 : Shape := ⟨3, ![128, 1, 512]⟩
abbrev S128x512 : Shape := ⟨2, ![128, 512]⟩
abbrev S128 : Shape := ⟨1, ![128]⟩
abbrev S128x1 : Shape := ⟨2, ![128, 1]⟩
abbrev S1024x512 : Shape := ⟨2, ![1024, 512]⟩
abbrev S128x256 : Shape := ⟨2, ![128, 256]⟩

abbrev nBuf : Space → Nat
  | .hbm => 62
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S1x128x2x512, .f32⟩
  | .hbm, ⟨2, _⟩ => ⟨S1x1024, .f32⟩
  | .hbm, ⟨3, _⟩ => ⟨S1x1024x3072, .f32⟩
  | .hbm, ⟨4, _⟩ => ⟨S1x64, .f32⟩
  | .hbm, ⟨5, _⟩ => ⟨S1x64, .f32⟩
  | .hbm, ⟨6, _⟩ => ⟨S1x3x512, .f32⟩
  | .hbm, ⟨7, _⟩ => ⟨S1x512, .f32⟩
  | .hbm, ⟨8, _⟩ => ⟨S128x1024, .f32⟩
  | .hbm, ⟨9, _⟩ => ⟨S256, .i32⟩
  | .hbm, ⟨10, _⟩ => ⟨S_, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .bf16⟩
  | .hbm, ⟨34, _⟩ => ⟨S1024, .f32⟩
  | .hbm, ⟨35, _⟩ => ⟨S1x1024, .f32⟩
  | .hbm, ⟨36, _⟩ => ⟨S1024x3072, .f32⟩
  | .hbm, ⟨37, _⟩ => ⟨S1024x3072, .bf16⟩
  | .hbm, ⟨38, _⟩ => ⟨S64, .f32⟩
  | .hbm, ⟨39, _⟩ => ⟨S1x64, .f32⟩
  | .hbm, ⟨40, _⟩ => ⟨S8x64, .f32⟩
  | .hbm, ⟨41, _⟩ => ⟨S512, .f32⟩
  | .hbm, ⟨42, _⟩ => ⟨S1x512, .f32⟩
  | .hbm, ⟨43, _⟩ => ⟨S64, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S3x512, .f32⟩
  | .hbm, ⟨49, _⟩ => ⟨S512, .f32⟩
  | .hbm, ⟨50, _⟩ => ⟨S1x512, .f32⟩
  | .hbm, ⟨51, _⟩ => ⟨S128x2x512, .f32⟩
  | .hbm, ⟨52, _⟩ => ⟨S128x1x512, .f32⟩
  | .hbm, ⟨53, _⟩ => ⟨S128x512, .f32⟩
  | .hbm, ⟨54, _⟩ => ⟨S128x2x512, .f32⟩
  | .hbm, ⟨55, _⟩ => ⟨S128x1x512, .f32⟩
  | .hbm, ⟨56, _⟩ => ⟨S128x512, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S128x512, .bf16⟩
  | .hbm, ⟨61, _⟩ => ⟨S128x512, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S1x512, .f32⟩
  | .local _ .vmem, ⟨4, _⟩ => ⟨S1x512, .f32⟩
  | .local _ .vmem, ⟨5, _⟩ => ⟨S256x256, .bf16⟩
  | .local _ .vmem, ⟨6, _⟩ => ⟨S3x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .bf16⟩
  | .local _ .vmem, ⟨14, _⟩ => ⟨S128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32_0 : Ref sig .tc := ⟨.hbm, 57, rfl⟩
abbrev main_v32_1 : Ref sig .tc := ⟨.hbm, 58, rfl⟩
abbrev main_v32_2 : Ref sig .tc := ⟨.hbm, 59, rfl⟩
abbrev main_v32_3 : Ref sig .tc := ⟨.hbm, 60, rfl⟩
abbrev main_v32_4 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== RefInSampleIdeal.lean ====
abbrev S128x1x1024 : Shape := ⟨3, ![128, 1, 1024]⟩
abbrev S1x128x2x512 : Shape := ⟨4, ![1, 128, 2, 512]⟩
abbrev S1x1024 : Shape := ⟨2, ![1, 1024]⟩
abbrev S1x1024x3072 : Shape := ⟨3, ![1, 1024, 3072]⟩
abbrev S1x64 : Shape := ⟨2, ![1, 64]⟩
abbrev S1x3x512 : Shape := ⟨3, ![1, 3, 512]⟩
abbrev S1x512 : Shape := ⟨2, ![1, 512]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1024x3072 : Shape := ⟨2, ![1024, 3072]⟩
abbrev S64 : Shape := ⟨1, ![64]⟩
abbrev S128x1x3072 : Shape := ⟨3, ![128, 1, 3072]⟩
abbrev S128x1x512 : Shape := ⟨3, ![128, 1, 512]⟩
abbrev S128x1x8x64 : Shape := ⟨4, ![128, 1, 8, 64]⟩
abbrev S128x1x8 : Shape := ⟨3, ![128, 1, 8]⟩
abbrev S128x1x8x1 : Shape := ⟨4, ![128, 1, 8, 1]⟩
abbrev S1x1x1x64 : Shape := ⟨4, ![1, 1, 1, 64]⟩
abbrev S128x2x512 : Shape := ⟨3, ![128, 2, 512]⟩
abbrev S3x512 : Shape := ⟨2, ![3, 512]⟩
abbrev S128x3x512 : Shape := ⟨3, ![128, 3, 512]⟩
abbrev S512 : Shape := ⟨1, ![512]⟩
abbrev S1x1x512 : Shape := ⟨3, ![1, 1, 512]⟩
abbrev S128x512 : Shape := ⟨2, ![128, 512]⟩

abbrev nBuf : Space → Nat
  | .hbm => 122
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x2x512, .f32⟩
  | .hbm, ⟨2, _⟩ => ⟨S1x1024, .f32⟩
  | .hbm, ⟨3, _⟩ => ⟨S1x1024x3072, .f32⟩
  | .hbm, ⟨4, _⟩ => ⟨S1x64, .f32⟩
  | .hbm, ⟨5, _⟩ => ⟨S1x64, .f32⟩
  | .hbm, ⟨6, _⟩ => ⟨S1x3x512, .f32⟩
  | .hbm, ⟨7, _⟩ => ⟨S1x512, .f32⟩
  | .hbm, ⟨8, _⟩ => ⟨S1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S1024x3072, .f32⟩
  | .hbm, ⟨26, _⟩ => ⟨S64, .f32⟩
  | .hbm, ⟨27, _⟩ => ⟨S64, .f32⟩
  | .hbm, ⟨28, _⟩ => ⟨S128x1x3072, .f32⟩
  | .hbm, ⟨29, _⟩ => ⟨S128x1x512, .f32⟩
  | .hbm, ⟨30, _⟩ => ⟨S128x1x512, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x512, .f32⟩
  | .hbm, ⟨35, _⟩ => ⟨S128x1x8x64, .f32⟩
  | .hbm, ⟨36, _⟩ => ⟨S128x1x8x64, .f32⟩
  | .hbm, ⟨37, _⟩ => ⟨S_, .f32⟩
  | .hbm, ⟨38, _⟩ => ⟨S128x1x8, .f32⟩
  | .hbm, ⟨39, _⟩ => ⟨S128x1x8x1, .f32⟩
  | .hbm, ⟨40, _⟩ => ⟨S_, .f32⟩
  | .hbm, ⟨41, _⟩ => ⟨S128x1x8x1, .f32⟩
  | .hbm, ⟨42, _⟩ => ⟨S128x1x8x1, .f32⟩
  | .hbm, ⟨43, _⟩ => ⟨S_, .f32⟩
  | .hbm, ⟨44, _⟩ => ⟨S128x1x8x1, .f32⟩
  | .hbm, ⟨45, _⟩ => ⟨S128x1x8x1, .f32⟩
  | .hbm, ⟨46, _⟩ => ⟨S128x1x8x1, .f32⟩
  | .hbm, ⟨47, _⟩ => ⟨S128x1x8x64, .f32⟩
  | .hbm, ⟨48, _⟩ => ⟨S128x1x8x64, .f32⟩
  | .hbm, ⟨49, _⟩ => ⟨S1x1x1x64, .f32⟩
  | .hbm, ⟨50, _⟩ => ⟨S128x1x8x64, .f32⟩
  | .hbm, ⟨51, _⟩ => ⟨S128x1x8x64, .f32⟩
  | .hbm, ⟨52, _⟩ => ⟨S128x1x8x64, .f32⟩
  | .hbm, ⟨53, _⟩ => ⟨S128x1x8x64, .f32⟩
  | .hbm, ⟨54, _⟩ => ⟨S_, .f32⟩
  | .hbm, ⟨55, _⟩ => ⟨S128x1x8, .f32⟩
  | .hbm, ⟨56, _⟩ => ⟨S128x1x8x1, .f32⟩
  | .hbm, ⟨57, _⟩ => ⟨S_, .f32⟩
  | .hbm, ⟨58, _⟩ => ⟨S128x1x8x1, .f32⟩
  | .hbm, ⟨59, _⟩ => ⟨S128x1x8x1, .f32⟩
  | .hbm, ⟨60, _⟩ => ⟨S_, .f32⟩
  | .hbm, ⟨61, _⟩ => ⟨S128x1x8x1, .f32⟩
  | .hbm, ⟨62, _⟩ => ⟨S128x1x8x1, .f32⟩
  | .hbm, ⟨63, _⟩ => ⟨S128x1x8x1, .f32⟩
  | .hbm, ⟨64, _⟩ => ⟨S128x1x8x64, .f32⟩
  | .hbm, ⟨65, _⟩ => ⟨S128x1x8x64, .f32⟩
  | .hbm, ⟨66, _⟩ => ⟨S1x1x1x64, .f32⟩
  | .hbm, ⟨67, _⟩ => ⟨S128x1x8x64, .f32⟩
  | .hbm, ⟨68, _⟩ => ⟨S128x1x8x64, .f32⟩
  | .hbm, ⟨69, _⟩ => ⟨S128x1x8x64, .f32⟩
  | .hbm, ⟨70, _⟩ => ⟨S128x1x512, .f32⟩
  | .hbm, ⟨71, _⟩ => ⟨S128x2x512, .f32⟩
  | .hbm, ⟨72, _⟩ => ⟨S3x512, .f32⟩
  | .hbm, ⟨73, _⟩ => ⟨S128x3x512, .f32⟩
  | .hbm, ⟨74, _⟩ => ⟨S1x512, .f32⟩
  | .hbm, ⟨75, _⟩ => ⟨S512, .f32⟩
  | .hbm, ⟨76, _⟩ => ⟨S128x1x512, .f32⟩
  | .hbm, ⟨77, _⟩ => ⟨S1x1x512, .f32⟩
  | .hbm, ⟨78, _⟩ => ⟨S128x1x512, .f32⟩
  | .hbm, ⟨79, _⟩ => ⟨S128x1x512, .f32⟩
  | .hbm, ⟨80, _⟩ => ⟨S1x512, .f32⟩
  | .hbm, ⟨81, _⟩ => ⟨S512, .f32⟩
  | .hbm, ⟨82, _⟩ => ⟨S128x1x512, .f32⟩
  | .hbm, ⟨83, _⟩ => ⟨S1x1x512, .f32⟩
  | .hbm, ⟨84, _⟩ => ⟨S128x1x512, .f32⟩
  | .hbm, ⟨85, _⟩ => ⟨S128x1x512, .f32⟩
  | .hbm, ⟨86, _⟩ => ⟨S128x1x512, .f32⟩
  | .hbm, ⟨87, _⟩ => ⟨S1x512, .f32⟩
  | .hbm, ⟨88, _⟩ => ⟨S512, .f32⟩
  | .hbm, ⟨89, _⟩ => ⟨S128x1x512, .f32⟩
  | .hbm, ⟨90, _⟩ => ⟨S1x1x512, .f32⟩
  | .hbm, ⟨91, _⟩ => ⟨S128x1x512, .f32⟩
  | .hbm, ⟨92, _⟩ => ⟨S128x1x512, .f32⟩
  | .hbm, ⟨93, _⟩ => ⟨S128x1x512, .f32⟩
  | .hbm, ⟨94, _⟩ => ⟨S128x2x512, .f32⟩
  | .hbm, ⟨95, _⟩ => ⟨S128x1x512, .f32⟩
  | .hbm, ⟨96, _⟩ => ⟨S512, .f32⟩
  | .hbm, ⟨97, _⟩ => ⟨S128x1x512, .f32⟩
  | .hbm, ⟨98, _⟩ => ⟨S_, .f32⟩
  | .hbm, ⟨99, _⟩ => ⟨S128x1, .f32⟩
  | .hbm, ⟨100, _⟩ => ⟨S128x1x1, .f32⟩
  | .hbm, ⟨101, _⟩ => ⟨S_, .f32⟩
  | .hbm, ⟨102, _⟩ => ⟨S128x1x1, .f32⟩
  | .hbm, ⟨103, _⟩ => ⟨S128x1x1, .f32⟩
  | .hbm, ⟨104, _⟩ => ⟨S_, .f32⟩
  | .hbm, ⟨105, _⟩ => ⟨S128x1x1, .f32⟩
  | .hbm, ⟨106, _⟩ => ⟨S128x1x1, .f32⟩
  | .hbm, ⟨107, _⟩ => ⟨S128x1x1, .f32⟩
  | .hbm, ⟨108, _⟩ => ⟨S128x1x512, .f32⟩
  | .hbm, ⟨109, _⟩ => ⟨S128x1x512, .f32⟩
  | .hbm, ⟨110, _⟩ => ⟨S1x1x512, .f32⟩
  | .hbm, ⟨111, _⟩ => ⟨S128x1x512, .f32⟩
  | .hbm, ⟨112, _⟩ => ⟨S128x1x512, .f32⟩
  | .hbm, ⟨113, _⟩ => ⟨S128x512, .f32⟩
  | .hbm, ⟨114, _⟩ => ⟨S_, .f32⟩
  | .hbm, ⟨115, _⟩ => ⟨S128x512, .f32⟩
  | .hbm, ⟨116, _⟩ => ⟨S128x512, .f32⟩
  | .hbm, ⟨117, _⟩ => ⟨S128x512, .f32⟩
  | .hbm, ⟨118, _⟩ => ⟨S128x512, .f32⟩
  | .hbm, ⟨119, _⟩ => ⟨S128x512, .f32⟩
  | .hbm, ⟨120, _⟩ => ⟨S128x512, .bf16⟩
  | .hbm, ⟨121, _⟩ => ⟨S128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_cst_10 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩

abbrev nD : Nat := 1
abbrev τ : Topo := Topo.v7x

variable {F : FTy → Type} [FloatOps F]
-- ==== Post.lean ====
abbrev S4x4096x1024 : Shape := ⟨3, ![4, 4096, 1024]⟩
abbrev S16384x512 : Shape := ⟨2, ![16384, 512]⟩
abbrev S1x4x4096x256 : Shape := ⟨4, ![1, 4, 4096, 256]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S16384x1024 : Shape := ⟨2, ![16384, 1024]⟩
abbrev S4x4096x256 : Shape := ⟨3, ![4, 4096, 256]⟩
abbrev S16384x256 : Shape := ⟨2, ![16384, 256]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S512x1024 : Shape := ⟨2, ![512, 1024]⟩
abbrev S256x2816 : Shape := ⟨2, ![256, 2816]⟩

abbrev nBuf : Space → Nat
  | .hbm => 35
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .bf16⟩
  | .hbm, ⟨3, _⟩ => ⟨S1x4x4096x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S16384x1024, .f32⟩
  | .hbm, ⟨14, _⟩ => ⟨S4x4096x256, .f32⟩
  | .hbm, ⟨15, _⟩ => ⟨S16384x256, .f32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x2816, .f32⟩
  | .hbm, ⟨23, _⟩ => ⟨S1024x2816, .bf16⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostIdeal.lean ====
abbrev S4x4096x1024 : Shape := ⟨3, ![4, 4096, 1024]⟩
abbrev S16384x512 : Shape := ⟨2, ![16384, 512]⟩
abbrev S1x4x4096x256 : Shape := ⟨4, ![1, 4, 4096, 256]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S16384x1024 : Shape := ⟨2, ![16384, 1024]⟩
abbrev S4x4096x256 : Shape := ⟨3, ![4, 4096, 256]⟩
abbrev S16384x256 : Shape := ⟨2, ![16384, 256]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S512x1024 : Shape := ⟨2, ![512, 1024]⟩
abbrev S256x2816 : Shape := ⟨2, ![256, 2816]⟩

abbrev nBuf : Space → Nat
  | .hbm => 35
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .bf16⟩
  | .hbm, ⟨3, _⟩ => ⟨S1x4x4096x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S16384x1024, .f32⟩
  | .hbm, ⟨14, _⟩ => ⟨S4x4096x256, .f32⟩
  | .hbm, ⟨15, _⟩ => ⟨S16384x256, .f32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x2816, .f32⟩
  | .hbm, ⟨23, _⟩ => ⟨S1024x2816, .bf16⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefPostIdeal.lean ====
abbrev S4x4096x1024 : Shape := ⟨3, ![4, 4096, 1024]⟩
abbrev S16384x512 : Shape := ⟨2, ![16384, 512]⟩
abbrev S1x4x4096x256 : Shape := ⟨4, ![1, 4, 4096, 256]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S4x4096x512 : Shape := ⟨3, ![4, 4096, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩
abbrev S4x4096x256 : Shape := ⟨3, ![4, 4096, 256]⟩
abbrev S256x1024 : Shape := ⟨2, ![256, 1024]⟩
abbrev S16384x1024 : Shape := ⟨2, ![16384, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .bf16⟩
  | .hbm, ⟨3, _⟩ => ⟨S1x4x4096x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S4x4096x512, .f32⟩
  | .hbm, ⟨14, _⟩ => ⟨S512, .f32⟩
  | .hbm, ⟨15, _⟩ => ⟨S4x4096x512, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x512, .f32⟩
  | .hbm, ⟨27, _⟩ => ⟨S4x4096x512, .f32⟩
  | .hbm, ⟨28, _⟩ => ⟨S1x1x512, .f32⟩
  | .hbm, ⟨29, _⟩ => ⟨S4x4096x512, .f32⟩
  | .hbm, ⟨30, _⟩ => ⟨S4x4096x512, .f32⟩
  | .hbm, ⟨31, _⟩ => ⟨S16384x512, .f32⟩
  | .hbm, ⟨32, _⟩ => ⟨S4x4096x512, .f32⟩
  | .hbm, ⟨33, _⟩ => ⟨S4x4096x1024, .f32⟩
  | .hbm, ⟨34, _⟩ => ⟨S1024x1024, .f32⟩
  | .hbm, ⟨35, _⟩ => ⟨S4x4096x1024, .f32⟩
  | .hbm, ⟨36, _⟩ => ⟨S4x4096x1024, .f32⟩
  | .hbm, ⟨37, _⟩ => ⟨S1024, .f32⟩
  | .hbm, ⟨38, _⟩ => ⟨S4x4096x1024, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x1024, .f32⟩
  | .hbm, ⟨50, _⟩ => ⟨S4x4096x1024, .f32⟩
  | .hbm, ⟨51, _⟩ => ⟨S1x1x1024, .f32⟩
  | .hbm, ⟨52, _⟩ => ⟨S4x4096x1024, .f32⟩
  | .hbm, ⟨53, _⟩ => ⟨S4x4096x1024, .f32⟩
  | .hbm, ⟨54, _⟩ => ⟨S1024x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S_, .f32⟩
  | .hbm, ⟨62, _⟩ => ⟨S4x4096x2816, .f32⟩
  | .hbm, ⟨63, _⟩ => ⟨S4x4096x2816, .f32⟩
  | .hbm, ⟨64, _⟩ => ⟨S4x4096x2816, .f32⟩
  | .hbm, ⟨65, _⟩ => ⟨S1024x2816, .f32⟩
  | .hbm, ⟨66, _⟩ => ⟨S4x4096x2816, .f32⟩
  | .hbm, ⟨67, _⟩ => ⟨S4x4096x2816, .f32⟩
  | .hbm, ⟨68, _⟩ => ⟨S2816x1024, .f32⟩
  | .hbm, ⟨69, _⟩ => ⟨S4x4096x1024, .f32⟩
  | .hbm, ⟨70, _⟩ => ⟨S4x4096x1024, .f32⟩
  | .hbm, ⟨71, _⟩ => ⟨S1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S1024x1024, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | .hbm, ⟨92, _⟩ => ⟨S_, .f32⟩
  | .hbm, ⟨93, _⟩ => ⟨S4x4096x1024, .f32⟩
  | .hbm, ⟨94, _⟩ => ⟨S4x4096x1024, .f32⟩
  | .hbm, ⟨95, _⟩ => ⟨S_, .f32⟩
  | .hbm, ⟨96, _⟩ => ⟨S4x4096x1024, .f32⟩
  | .hbm, ⟨97, _⟩ => ⟨S4x4096x1024, .f32⟩
  | .hbm, ⟨98, _⟩ => ⟨S4x4096x256, .f32⟩
  | .hbm, ⟨99, _⟩ => ⟨S256x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== PostSample.lean ====
abbrev S128x1x1024 : Shape := ⟨3, ![128, 1, 1024]⟩
abbrev S128x512 : Shape := ⟨2, ![128, 512]⟩
abbrev S1x128x1x256 : Shape := ⟨4, ![1, 128, 1, 256]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S128x1024 : Shape := ⟨2, ![128, 1024]⟩
abbrev S128x1x256 : Shape := ⟨3, ![128, 1, 256]⟩
abbrev S128x256 : Shape := ⟨2, ![128, 256]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S128 : Shape := ⟨1, ![128]⟩
abbrev S128x1 : Shape := ⟨2, ![128, 1]⟩
abbrev S512x1024 : Shape := ⟨2, ![512, 1024]⟩
abbrev S128x2816 : Shape := ⟨2, ![128, 2816]⟩

abbrev nBuf : Space → Nat
  | .hbm => 35
  | .vmem => 14
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .bf16⟩
  | .hbm, ⟨3, _⟩ => ⟨S1x128x1x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S128x1024, .f32⟩
  | .hbm, ⟨14, _⟩ => ⟨S128x1x256, .f32⟩
  | .hbm, ⟨15, _⟩ => ⟨S128x256, .f32⟩
  | .hbm, ⟨16, _⟩ => ⟨S512, .f32⟩
  | .hbm, ⟨17, _⟩ => ⟨S1x512, .f32⟩
  | .hbm, ⟨18, _⟩ => ⟨S1024x1024, .f32⟩
  | .hbm, ⟨19, _⟩ => ⟨S1024x1024, .bf16⟩
  | .hbm, ⟨20, _⟩ => ⟨S1024, .f32⟩
  | .hbm, ⟨21, _⟩ => ⟨S1x1024, .f32⟩
  | .hbm, ⟨22, _⟩ => ⟨S1024x2816, .f32⟩
  | .hbm, ⟨23, _⟩ => ⟨S1024x2816, .bf16⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S128x1024, .f32⟩
  | .local _ .vmem, ⟨0, _⟩ => ⟨S128x1024, .f32⟩
  | .local _ .vmem, ⟨1, _⟩ => ⟨S128x512, .f32⟩
  | .local _ .vmem, ⟨2, _⟩ => ⟨S128x512, .bf16⟩
  | .local _ .vmem, ⟨3, _⟩ => ⟨S128x256, .f32⟩
  | .local _ .vmem, ⟨4, _⟩ => ⟨S1x512, .f32⟩
  | .local _ .vmem, ⟨5, _⟩ => ⟨S1024x1024, .bf16⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== RefPostSampleIdeal.lean ====
abbrev S128x1x1024 : Shape := ⟨3, ![128, 1, 1024]⟩
abbrev S128x512 : Shape := ⟨2, ![128, 512]⟩
abbrev S1x128x1x256 : Shape := ⟨4, ![1, 128, 1, 256]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S128x1x512 : Shape := ⟨3, ![128, 1, 512]⟩
abbrev S512 : Shape := ⟨1, ![512]⟩
abbrev S_ : Shape := ⟨0, ![]⟩
abbrev S128x1 : Shape := ⟨2, ![128, 1]⟩
abbrev S128x1x1 : Shape := ⟨3, ![128, 1, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S128x1x2816 : Shape := ⟨3, ![128, 1, 2816]⟩
abbrev S2816x1024 : Shape := ⟨2, ![2816, 1024]⟩
abbrev S128x1x256 : Shape := ⟨3, ![128, 1, 256]⟩
abbrev S256x1024 : Shape := ⟨2, ![256, 1024]⟩
abbrev S128x1024 : Shape := ⟨2, ![128, 1024]⟩

abbrev nBuf : Space → Nat
  | .hbm => 104
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x512, .f32⟩
  | .hbm, ⟨2, _⟩ => ⟨S128x512, .bf16⟩
  | .hbm, ⟨3, _⟩ => ⟨S1x128x1x256, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024x1024, .f32⟩
  | .hbm, ⟨12, _⟩ => ⟨S1x256x1024, .f32⟩
  | .hbm, ⟨13, _⟩ => ⟨S128x1x512, .f32⟩
  | .hbm, ⟨14, _⟩ => ⟨S512, .f32⟩
  | .hbm, ⟨15, _⟩ => ⟨S128x1x512, .f32⟩
  | .hbm, ⟨16, _⟩ => ⟨S_, .f32⟩
  | .hbm, ⟨17, _⟩ => ⟨S128x1, .f32⟩
  | .hbm, ⟨18, _⟩ => ⟨S128x1x1, .f32⟩
  | .hbm, ⟨19, _⟩ => ⟨S_, .f32⟩
  | .hbm, ⟨20, _⟩ => ⟨S128x1x1, .f32⟩
  | .hbm, ⟨21, _⟩ => ⟨S128x1x1, .f32⟩
  | .hbm, ⟨22, _⟩ => ⟨S_, .f32⟩
  | .hbm, ⟨23, _⟩ => ⟨S128x1x1, .f32⟩
  | .hbm, ⟨24, _⟩ => ⟨S128x1x1, .f32⟩
  | .hbm, ⟨25, _⟩ => ⟨S128x1x1, .f32⟩
  | .hbm, ⟨26, _⟩ => ⟨S128x1x512, .f32⟩
  | .hbm, ⟨27, _⟩ => ⟨S128x1x512, .f32⟩
  | .hbm, ⟨28, _⟩ => ⟨S1x1x512, .f32⟩
  | .hbm, ⟨29, _⟩ => ⟨S128x1x512, .f32⟩
  | .hbm, ⟨30, _⟩ => ⟨S128x1x512, .f32⟩
  | .hbm, ⟨31, _⟩ => ⟨S128x512, .f32⟩
  | .hbm, ⟨32, _⟩ => ⟨S128x1x512, .f32⟩
  | .hbm, ⟨33, _⟩ => ⟨S128x1x1024, .f32⟩
  | .hbm, ⟨34, _⟩ => ⟨S1024x1024, .f32⟩
  | .hbm, ⟨35, _⟩ => ⟨S128x1x1024, .f32⟩
  | .hbm, ⟨36, _⟩ => ⟨S128x1x1024, .f32⟩
  | .hbm, ⟨37, _⟩ => ⟨S1024, .f32⟩
  | .hbm, ⟨38, _⟩ => ⟨S128x1x1024, .f32⟩
  | .hbm, ⟨39, _⟩ => ⟨S_, .f32⟩
  | .hbm, ⟨40, _⟩ => ⟨S128x1, .f32⟩
  | .hbm, ⟨41, _⟩ => ⟨S128x1x1, .f32⟩
  | .hbm, ⟨42, _⟩ => ⟨S_, .f32⟩
  | .hbm, ⟨43, _⟩ => ⟨S128x1x1, .f32⟩
  | .hbm, ⟨44, _⟩ => ⟨S128x1x1, .f32⟩
  | .hbm, ⟨45, _⟩ => ⟨S_, .f32⟩
  | .hbm, ⟨46, _⟩ => ⟨S128x1x1, .f32⟩
  | .hbm, ⟨47, _⟩ => ⟨S128x1x1, .f32⟩
  | .hbm, ⟨48, _⟩ => ⟨S128x1x1, .f32⟩
  | .hbm, ⟨49, _⟩ => ⟨S128x1x1024, .f32⟩
  | .hbm, ⟨50, _⟩ => ⟨S128x1x1024, .f32⟩
  | .hbm, ⟨51, _⟩ => ⟨S1x1x1024, .f32⟩
  | .hbm, ⟨52, _⟩ => ⟨S128x1x1024, .f32⟩
  | .hbm, ⟨53, _⟩ => ⟨S128x1x1024, .f32⟩
  | .hbm, ⟨54, _⟩ => ⟨S1024x2816, .f32⟩
  | .hbm, ⟨55, _⟩ => ⟨S128x1x2816, .f32⟩
  | .hbm, ⟨56, _⟩ => ⟨S128x1x2816, .f32⟩
  | .hbm, ⟨57, _⟩ => ⟨S128x1x2816, .f32⟩
  | .hbm, ⟨58, _⟩ => ⟨S_, .f32⟩
  | .hbm, ⟨59, _⟩ => ⟨S128x1x2816, .f32⟩
  | .hbm, ⟨60, _⟩ => ⟨S128x1x2816, .f32⟩
  | .hbm, ⟨61, _⟩ => ⟨S_, .f32⟩
  | .hbm, ⟨62, _⟩ => ⟨S128x1x2816, .f32⟩
  | .hbm, ⟨63, _⟩ => ⟨S128x1x2816, .f32⟩
  | .hbm, ⟨64, _⟩ => ⟨S128x1x2816, .f32⟩
  | .hbm, ⟨65, _⟩ => ⟨S1024x2816, .f32⟩
  | .hbm, ⟨66, _⟩ => ⟨S128x1x2816, .f32⟩
  | .hbm, ⟨67, _⟩ => ⟨S128x1x2816, .f32⟩
  | .hbm, ⟨68, _⟩ => ⟨S2816x1024, .f32⟩
  | .hbm, ⟨69, _⟩ => ⟨S128x1x1024, .f32⟩
  | .hbm, ⟨70, _⟩ => ⟨S128x1x1024, .f32⟩
  | .hbm, ⟨71, _⟩ => ⟨S1024, .f32⟩
  | .hbm, ⟨72, _⟩ => ⟨S128x1x1024, .f32⟩
  | .hbm, ⟨73, _⟩ => ⟨S_, .f32⟩
  | .hbm, ⟨74, _⟩ => ⟨S128x1, .f32⟩
  | .hbm, ⟨75, _⟩ => ⟨S128x1x1, .f32⟩
  | .hbm, ⟨76, _⟩ => ⟨S_, .f32⟩
  | .hbm, ⟨77, _⟩ => ⟨S128x1x1, .f32⟩
  | .hbm, ⟨78, _⟩ => ⟨S128x1x1, .f32⟩
  | .hbm, ⟨79, _⟩ => ⟨S_, .f32⟩
  | .hbm, ⟨80, _⟩ => ⟨S128x1x1, .f32⟩
  | .hbm, ⟨81, _⟩ => ⟨S128x1x1, .f32⟩
  | .hbm, ⟨82, _⟩ => ⟨S128x1x1, .f32⟩
  | .hbm, ⟨83, _⟩ => ⟨S128x1x1024, .f32⟩
  | .hbm, ⟨84, _⟩ => ⟨S128x1x1024, .f32⟩
  | .hbm, ⟨85, _⟩ => ⟨S1x1x1024, .f32⟩
  | .hbm, ⟨86, _⟩ => ⟨S128x1x1024, .f32⟩
  | .hbm, ⟨87, _⟩ => ⟨S128x1x1024, .f32⟩
  | .hbm, ⟨88, _⟩ => ⟨S1024x1024, .f32⟩
  | .hbm, ⟨89, _⟩ => ⟨S128x1x1024, .f32⟩
  | .hbm, ⟨90, _⟩ => ⟨S128x1x1024, .f32⟩
  | .hbm, ⟨91, _⟩ => ⟨S128x1x1024, .f32⟩
  | .hbm, ⟨92, _⟩ => ⟨S_, .f32⟩
  | .hbm, ⟨93, _⟩ => ⟨S128x1x1024, .f32⟩
  | .hbm, ⟨94, _⟩ => ⟨S128x1x1024, .f32⟩
  | .hbm, ⟨95, _⟩ => ⟨S_, .f32⟩
  | .hbm, ⟨96, _⟩ => ⟨S128x1x1024, .f32⟩
  | .hbm, ⟨97, _⟩ => ⟨S128x1x1024, .f32⟩
  | .hbm, ⟨98, _⟩ => ⟨S128x1x256, .f32⟩
  | .hbm, ⟨99, _⟩ => ⟨S256x1024, .f32⟩
  | .hbm, ⟨100, _⟩ => ⟨S128x1x1024, .f32⟩
  | .hbm, ⟨101, _⟩ => ⟨S128x1x1024, .f32⟩
  | .hbm, ⟨102, _⟩ => ⟨S128x1x1024, .f32⟩
  | .hbm, ⟨103, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== Proof.Rows.lean ====
/- One row of the decoder layer at a time: the normalisations, the products with a weight matrix and the two halves
   of the mixer, as functions of rows of extended reals. Both the kernels' stores and the references' results are read
   as these functions, so that the two are compared without any array in sight. -/
module

public import Idealize.ShloMosaic.Lib.Pointwise

@[expose] public section

noncomputable section

namespace Cert.Rows

open Idealize.ShloMosaic

/-- The small constant under the reciprocal square roots. -/
def eps : EReal := Ideal.ofBits .f32 0x358637BD#32

/-- The row lengths the mean squares are divided by. -/
def len512 : EReal := Ideal.ofBits .f32 0x44000000#32
def len1024 : EReal := Ideal.ofBits .f32 0x44800000#32

/-- The reciprocal root mean square of a row whose length is `d`. -/
def rinv {n : ℕ} (d : EReal) (x : Fin n → EReal) : EReal :=
  Ideal.rsqrt (Ideal.div (∑ k, x k * x k) d + eps)

/-- A row normalised by its root mean square and scaled by the gains `g`. -/
def nrm {n : ℕ} (d : EReal) (x g : Fin n → EReal) (j : Fin n) : EReal := x j * rinv d x * g j

/-- A row times a matrix. -/
def mv {n k : ℕ} (x : Fin n → EReal) (w : Fin n → Fin k → EReal) (j : Fin k) : EReal := ∑ a, x a * w a j

/-- The residual row after the output projection: the normalised attention row meets the upper half of the projection,
    the convolution's row the lower half. -/
def mixed (x : Fin 1024 → EReal) (a c gA : Fin 512 → EReal) (wT wB : Fin 512 → Fin 1024 → EReal) (j : Fin 1024) : EReal :=
  x j + mv (nrm len512 a gA) wT j + mv c wB j

/-- The gated feed-forward step added to a residual row. -/
def fed (h g : Fin 1024 → EReal) (wg wu : Fin 1024 → Fin 2816 → EReal) (wd : Fin 2816 → Fin 1024 → EReal) (j : Fin 1024) : EReal :=
  h j + mv (fun k => mv (nrm len1024 h g) wg k * Ideal.logistic (mv (nrm len1024 h g) wg k) * mv (nrm len1024 h g) wu k) wd j

/-- The gated per-layer embedding added to a residual row. -/
def gated (h g : Fin 1024 → EReal) (wpg : Fin 1024 → Fin 1024 → EReal) (p : Fin 256 → EReal) (wpp : Fin 256 → Fin 1024 → EReal)
    (j : Fin 1024) : EReal :=
  h j + mv p wpp j * Ideal.logistic (mv (nrm len1024 h g) wpg j)

/-- The whole second half of the layer on one row. -/
def post (x : Fin 1024 → EReal) (a c : Fin 512 → EReal) (p : Fin 256 → EReal) (gA : Fin 512 → EReal)
    (wT wB : Fin 512 → Fin 1024 → EReal) (gF : Fin 1024 → EReal) (wg wu : Fin 1024 → Fin 2816 → EReal)
    (wd : Fin 2816 → Fin 1024 → EReal) (gP : Fin 1024 → EReal) (wpg : Fin 1024 → Fin 1024 → EReal)
    (wpp : Fin 256 → Fin 1024 → EReal) : Fin 1024 → EReal :=
  gated (fed (mixed x a c gA wT wB) gF wg wu wd) gP wpg p wpp

end Cert.Rows

end
-- ==== Proof.InRows.lean ====
/- One row of the input projection at a time: the six parts of the projection, the normalisation of each head, and the
   short convolution, as functions of rows of extended reals. -/
module

public import proofs.«01_k».proof.Proof.Rows

@[expose] public section

noncomputable section

namespace Cert.Rows

open Idealize.ShloMosaic

/-- The width of a head, which its mean square is divided by. -/
def len64 : EReal := Ideal.ofBits .f32 0x42800000#32

/-- The factor the queries carry: the inverse square root of a head's width, in units of the binary logarithm. -/
def qscale : EReal := Ideal.ofBits .f32 0x3E38AA3B#32

/-- The part of the projection whose columns start at `o`, of a row normalised with the gains `g`. -/
def part (x g : Fin 1024 → EReal) (w : Fin 1024 → Fin 3072 → EReal) (o : ℕ) (ho : o + 512 ≤ 3072) (j : Fin 512) : EReal :=
  mv (nrm len1024 x g) (fun k (l : Fin 512) => w k ⟨o + l.val, by omega⟩) j

/-- The sum of squares over the head that lane `j` belongs to. -/
def headSq (p : Fin 512 → EReal) (j : Fin 512) : EReal :=
  ∑ d : Fin 64, p ⟨j.val / 64 * 64 + d.val, by omega⟩ * p ⟨j.val / 64 * 64 + d.val, by omega⟩

/-- Each head of 64 lanes normalised by its own root mean square, with gains `g` shared by the heads. -/
def heads (p : Fin 512 → EReal) (g : Fin 64 → EReal) (j : Fin 512) : EReal :=
  p j * Ideal.rsqrt (Ideal.div (headSq p j) len64 + eps) * g ⟨j.val % 64, by omega⟩

/-- The short convolution over three successive rows. -/
def conv (c : Fin 3 → Fin 512 → EReal) (u2 u1 u : Fin 512 → EReal) (j : Fin 512) : EReal :=
  c 0 j * u2 j + c 1 j * u1 j + c 2 j * u j

/-- The gated convolution's row, normalised. -/
def convOut (b : Fin 512 → EReal) (y g : Fin 512 → EReal) (j : Fin 512) : EReal := nrm len512 (fun k => b k * y k) g j

theorem len64_eq : len64 = ((64 : ℝ) : EReal) := by
  simp [len64, Ideal.ofBits, Ideal.ieee, -EReal.coe_mul]; norm_num

/-- Multiplying by the literal one sixty-fourth is dividing by sixty-four. -/
theorem div64 (s : EReal) : s * Ideal.ofBits .f32 0x3C800000#32 = Ideal.div s len64 := by
  have h : Ideal.ofBits .f32 0x3C800000#32 = ((1 / 64 : ℝ) : EReal) := by
    simp [Ideal.ofBits, Ideal.ieee, -EReal.coe_mul]; norm_num
  rw [len64_eq, h, Ideal.div_coe (by norm_num : (64 : ℝ) ≠ 0)]

/-- A row of 256 lanes against the matrix that joins lanes of one head sums the head of the chosen lane. -/
theorem sum_group (f : Fin 256 → EReal) (j : Fin 256) :
    ∑ k : Fin 256, f k * (if k.val / 64 = j.val / 64 then (1 : EReal) else 0)
      = ∑ d : Fin 64, f ⟨j.val / 64 * 64 + d.val, by omega⟩ := by
  simp only [mul_ite, mul_one, mul_zero]
  rw [← Finset.sum_filter]
  symm
  refine Finset.sum_nbij (fun d : Fin 64 => (⟨j.val / 64 * 64 + d.val, by omega⟩ : Fin 256)) ?_ ?_ ?_ ?_
  · intro d _
    simp only [Finset.mem_filter, Finset.mem_univ, true_and]
    omega
  · intro a _ b _ h
    have := congrArg Fin.val h
    exact Fin.ext (by simpa using this)
  · intro k hk
    have hk' : k.val / 64 = j.val / 64 := by simpa using hk
    exact ⟨⟨k.val % 64, by omega⟩, by simp, Fin.ext (by show _ + _ = _; simp only; omega)⟩
  · intro d _
    rfl

/-- The same over the lower half of a row of 512 lanes. -/
theorem sum_group_low (p : Fin 512 → EReal) (e : Fin 256 → Fin 256 → EReal)
    (he : ∀ a b, e a b = if a.val / 64 = b.val / 64 then 1 else 0) (j : Fin 512) (hj : j.val < 256) :
    ∑ k : Fin 256, p ⟨k.val, by omega⟩ * p ⟨k.val, by omega⟩ * e k ⟨j.val, hj⟩ = headSq p j := by
  simp only [he]
  exact sum_group (fun k => p ⟨k.val, by omega⟩ * p ⟨k.val, by omega⟩) ⟨j.val, hj⟩

/-- The same over the upper half. -/
theorem sum_group_high (p : Fin 512 → EReal) (e : Fin 256 → Fin 256 → EReal)
    (he : ∀ a b, e a b = if a.val / 64 = b.val / 64 then 1 else 0) (j : Fin 512) (hj : ¬j.val < 256) :
    ∑ k : Fin 256, p ⟨256 + k.val, by omega⟩ * p ⟨256 + k.val, by omega⟩ * e k ⟨j.val - 256, by omega⟩ = headSq p j := by
  simp only [he]
  refine (sum_group (fun k => p ⟨256 + k.val, by omega⟩ * p ⟨256 + k.val, by omega⟩) ⟨j.val - 256, by omega⟩).trans ?_
  refine Finset.sum_congr rfl fun d _ => ?_
  have h : (⟨256 + ((j.val - 256) / 64 * 64 + d.val), by omega⟩ : Fin 512) = ⟨j.val / 64 * 64 + d.val, by omega⟩ :=
    Fin.ext (by simp only; omega)
  simp only [h]

end Cert.Rows

end
-- ==== Proof.InProjPay.lean ====
/- What the body of the call `InProjIdeal` computes, read one row at a time. -/
module

public import proofs.«01_k».proof.Proof.Gen.InProjIdeal.Skeleton
public import proofs.«01_k».proof.Proof.InRows

@[expose] public section

set_option maxRecDepth 16384

noncomputable section

namespace Cert.InProjIdeal.Pay

open Cert.InProjIdeal Cert.InProjIdeal.Gen Idealize.ShloMosaic Cert.Rows

variable (x : FVec Ideal S512x1024 .f32) (g : FVec Ideal S1x1024 .f32) (hn : FVec Ideal S512x1024 .bf16)
  (e : FVec Ideal S256x256 .bf16) (w w' : FVec Ideal S1024x512 .bf16) (gq : FVec Ideal S1x512 .f32)

/-- The normalised row. -/
theorem hn_row (r : Fin 512) (k : Fin 1024) :
    k0_pay5 (F := Ideal) x g (ix2 r k) = nrm len1024 (fun a => x (ix2 r a)) (fun a => g (ix2 0 a)) k := by
  pointwise [k0_pay5, nrm, rinv, eps, len1024]

/-- The keys of a row, from its normalised row. -/
theorem k_row (he : ∀ a b, e (ix2 a b) = if a.val / 64 = b.val / 64 then 1 else 0) (G : Fin 64 → EReal)
    (hg : ∀ j : Fin 512, gq (ix2 0 j) = G ⟨j.val % 64, by omega⟩) (r : Fin 512) (j : Fin 512) :
    k0_pay9 (F := Ideal) hn (k0_pay6 e) w gq (ix2 r j)
      = heads (mv (fun k => hn (ix2 r k)) (fun k l => w (ix2 k l))) G j := by
  have hlow := sum_group_low (mv (fun k => hn (ix2 r k)) (fun k l => w (ix2 k l))) (fun a b => e (ix2 a b)) he j
  have hhigh := sum_group_high (mv (fun k => hn (ix2 r k)) (fun k l => w (ix2 k l))) (fun a b => e (ix2 a b)) he j
  unfold heads
  rw [← hg j]
  by_cases hj : j.val < 256
  · rw [← hlow hj, ← div64]
    pointwise [k0_pay9, k0_pay6, mv, eps]
    simp only [hj, dite_true]
  · rw [← hhigh hj, ← div64]
    pointwise [k0_pay9, k0_pay6, mv, eps]
    simp only [hj, dite_false]

/-- The queries of a row before they are scaled. -/
theorem q_row (he : ∀ a b, e (ix2 a b) = if a.val / 64 = b.val / 64 then 1 else 0) (G : Fin 64 → EReal)
    (hg : ∀ j : Fin 512, gq (ix2 0 j) = G ⟨j.val % 64, by omega⟩) (r : Fin 512) (j : Fin 512) :
    k0_pay7 (F := Ideal) x g e w gq (ix2 r j)
      = heads (mv (nrm len1024 (fun a => x (ix2 r a)) (fun a => g (ix2 0 a))) (fun k l => w (ix2 k l))) G j := by
  have h : k0_pay7 (F := Ideal) x g e w gq = k0_pay9 (F := Ideal) (k0_pay5 x g) (k0_pay6 e) w gq := rfl
  rw [h, k_row _ e w gq he G hg]
  simp only [hn_row]

/-- The values of a row. -/
theorem v_row (r : Fin 512) (j : Fin 512) :
    k0_pay10 (F := Ideal) hn w (ix2 r j) = mv (fun k => hn (ix2 r k)) (fun k l => w (ix2 k l)) j := by
  pointwise [k0_pay10, mv]

/-- The gate of a row. -/
theorem b_row (r : Fin 512) (j : Fin 512) :
    k0_pay11 (F := Ideal) hn w (ix2 r j) = mv (fun k => hn (ix2 r k)) (fun k l => w (ix2 k l)) j := by
  pointwise [k0_pay11, mv]

/-- The row that goes into the convolution. -/
theorem u_row (r : Fin 512) (j : Fin 512) :
    k0_pay12 (F := Ideal) hn w w' (ix2 r j)
      = mv (fun k => hn (ix2 r k)) (fun k l => w (ix2 k l)) j * mv (fun k => hn (ix2 r k)) (fun k l => w' (ix2 k l)) j := by
  pointwise [k0_pay12, mv]

/-- The convolution's row, gated and normalised. -/
theorem c_row (b u : FVec Ideal S512x512 .f32) (cw : FVec Ideal S3x512 .f32) (u2 u1 : FVec Ideal S512x512 .f32)
    (gn : FVec Ideal S1x512 .f32) (r : Fin 512) (j : Fin 512) :
    k0_pay1 (F := Ideal) b u (k0_pay20 cw) (k0_pay21 cw) u2 u1 gn (ix2 r j)
      = convOut (fun k => b (ix2 r k)) (conv (fun i k => cw (ix2 i k)) (fun k => u2 (ix2 r k)) (fun k => u1 (ix2 r k))
          (fun k => u (ix2 r k))) (fun k => gn (ix2 0 k)) j := by
  pointwise [k0_pay1, k0_pay20, k0_pay21, convOut, conv, nrm, rinv, eps, len512]

end Cert.InProjIdeal.Pay

end
-- ==== Proof.InSpec.lean ====
/- The results of the input projection as functions of its argument arrays. -/
module

public import proofs.«01_k».proof.Proof.InRows

@[expose] public section

noncomputable section

namespace Cert.Rows

open Idealize.ShloMosaic

/-- A head's lane, written as its head and its place in the head. -/
theorem heads_at (p : Fin 512 → EReal) (g : Fin 64 → EReal) (h : Fin 8) (d : Fin 64) :
    heads p g ⟨h.val * 64 + d.val, by omega⟩
      = p ⟨h.val * 64 + d.val, by omega⟩
        * Ideal.rsqrt (Ideal.div (∑ a : Fin 64, p ⟨h.val * 64 + a.val, by omega⟩ * p ⟨h.val * 64 + a.val, by omega⟩) len64 + eps)
        * g d := by
  have h1 : (h.val * 64 + d.val) / 64 = h.val := by omega
  have h2 : (h.val * 64 + d.val) % 64 = d.val := by omega
  unfold heads headSq
  simp only [h1, h2]

section

variable {B T : ℕ} (X : FVec Ideal ⟨3, ![B, T, 1024]⟩ .f32) (gm : FVec Ideal ⟨2, ![1, 1024]⟩ .f32)
  (w : FVec Ideal ⟨3, ![1, 1024, 3072]⟩ .f32)

/-- A part of the projection of the row `s` of sequence `b`. -/
def partAt (o : ℕ) (ho : o + 512 ≤ 3072) (b : Fin B) (s : Fin T) : Fin 512 → EReal :=
  part (fun k => X (ix3 b s k)) (fun k => gm (ix2 0 k)) (fun k l => w (ix3 0 k l)) o ho

/-- Its queries, keys and values. -/
def qAt (gq : FVec Ideal ⟨2, ![1, 64]⟩ .f32) (b : Fin B) (s : Fin T) (j : Fin 512) : EReal :=
  heads (partAt X gm w 0 (by omega) b s) (fun d => gq (ix2 0 d)) j * qscale

def kAt (gk : FVec Ideal ⟨2, ![1, 64]⟩ .f32) (b : Fin B) (s : Fin T) : Fin 512 → EReal :=
  heads (partAt X gm w 512 (by omega) b s) (fun d => gk (ix2 0 d))

def vAt (b : Fin B) (s : Fin T) : Fin 512 → EReal := partAt X gm w 1024 (by omega) b s

/-- The row that goes into the convolution. -/
def uAt (b : Fin B) (s : Fin T) (j : Fin 512) : EReal :=
  partAt X gm w 2048 (by omega) b s j * partAt X gm w 2560 (by omega) b s j

/-- The row that lies `d` rows earlier in the sequence; before the sequence's start it is zero. -/
def uBack (d : ℕ) (b : Fin B) (s : Fin T) (j : Fin 512) : EReal :=
  if h : s.val < d then 0 else uAt X gm w b ⟨s.val - d, by omega⟩ j

/-- The convolution's result from the two rows before this one. -/
def cAt (cw : FVec Ideal ⟨3, ![1, 3, 512]⟩ .f32) (gc : FVec Ideal ⟨2, ![1, 512]⟩ .f32) (u2 u1 : Fin 512 → EReal) (b : Fin B)
    (s : Fin T) : Fin 512 → EReal :=
  convOut (partAt X gm w 1536 (by omega) b s) (conv (fun i k => cw (ix3 0 i k)) u2 u1 (uAt X gm w b s)) (fun k => gc (ix2 0 k))

end

end Cert.Rows

end
-- ==== Proof.InProjBlk.lean ====
/- The blocks that the call `InProjIdeal` stages, as parts of the call's arguments. -/
module

public import proofs.«01_k».proof.Proof.Gen.InProjIdeal.Value
public import proofs.«01_k».proof.Proof.InProjPay
public import proofs.«01_k».proof.Proof.InSpec
public import Idealize.ShloMosaic.Lib.Pipeline.ValueKit

@[expose] public section

set_option maxRecDepth 16384

noncomputable section

namespace Cert.InProjIdeal.Result

open Cert.InProjIdeal Cert.InProjIdeal.Gen Idealize.ShloMosaic Idealize.ShloMosaic.TcCoe Idealize.SL.Sem Cert.Rows

variable (m : (ℓ : Loc nD τ sig) → Buf (Elt Ideal) ℓ)

/-- Where each window's block sits at every grid point. -/
theorem idx : ∀ t : Fin cfg0.N,
    (win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0])
    ∧ (win0_8.index t = ![t.val, 0] ∧ win0_9.index t = ![t.val / 8, 0, t.val % 8] ∧ win0_10.index t = ![t.val / 8, 0, t.val % 8]
      ∧ win0_11.index t = ![t.val, 0] ∧ win0_12.index t = ![t.val, 0] ∧ win0_13.index t = ![t.val, 0]
      ∧ win0_14.index t = ![t.val / 8, 0, 0]) :=
  (by decide +kernel : ∀ t : Fin grid0.N, _)

/-- What the host hands to the call: the argument arrays under other shapes. -/
theorem ent0 (c : Dev nD) :
    StableHlo.after [hostOps0, hostOps0_1, hostOps0_2].flatten (fun b => m (c, b)) (Proc.tc.devRef main_v0) = shapeCast S16384x1024 (m ((c : Thread nD τ).loc main_arg0)) shapeCasts_S4x4096x1024_S16384x1024 := by
  simp only [hostOps0, hostOps0_1, hostOps0_2, List.flatten_cons, List.flatten_nil, List.append_nil, List.cons_append,
    List.nil_append]
  entry_read
  rfl

theorem ent10 (c : Dev nD) :
    StableHlo.after [hostOps0, hostOps0_1, hostOps0_2].flatten (fun b => m (c, b)) (Proc.tc.devRef main_v10) = shapeCast S1x1024 (shapeCast S1024 (m ((c : Thread nD τ).loc main_arg1)) shapeCasts_S1x1024_S1024) shapeCasts_S1024_S1x1024 := by
  simp only [hostOps0, hostOps0_1, hostOps0_2, List.flatten_cons, List.flatten_nil, List.append_nil, List.cons_append,
    List.nil_append]
  entry_read
  rfl

theorem ent12 (c : Dev nD) :
    StableHlo.after [hostOps0, hostOps0_1, hostOps0_2].flatten (fun b => m (c, b)) (Proc.tc.devRef main_v12) = truncf (F := Ideal) .bf16 (shapeCast S1024x3072 (m ((c : Thread nD τ).loc main_arg2)) shapeCasts_S1x1024x3072_S1024x3072) bitsLt_bf16_f32 := by
  simp only [hostOps0, hostOps0_1, hostOps0_2, List.flatten_cons, List.flatten_nil, List.append_nil, List.cons_append,
    List.nil_append]
  entry_read
  rfl

theorem ent17 (c : Dev nD) :
    StableHlo.after [hostOps0, hostOps0_1, hostOps0_2].flatten (fun b => m (c, b)) (Proc.tc.devRef main_v17) = shapeCast S1x512 (shapeCast S512 (broadcastInDim S8x64 ![0, 1] bcast_S1x64_S8x64_0_1 (shapeCast S1x64
    (shapeCast S64 (m ((c : Thread nD τ).loc main_arg3)) shapeCasts_S1x64_S64) shapeCasts_S64_S1x64)) shapeCasts_S8x64_S512) shapeCasts_S512_S1x512 := by
  simp only [hostOps0, hostOps0_1, hostOps0_2, List.flatten_cons, List.flatten_nil, List.append_nil, List.cons_append,
    List.nil_append]
  entry_read
  rfl

theorem ent22 (c : Dev nD) :
    StableHlo.after [hostOps0, hostOps0_1, hostOps0_2].flatten (fun b => m (c, b)) (Proc.tc.devRef main_v22) = shapeCast S1x512 (shapeCast S512 (broadcastInDim S8x64 ![0, 1] bcast_S1x64_S8x64_0_1 (shapeCast S1x64
    (shapeCast S64 (m ((c : Thread nD τ).loc main_arg4)) shapeCasts_S1x64_S64) shapeCasts_S64_S1x64)) shapeCasts_S8x64_S512) shapeCasts_S512_S1x512 := by
  simp only [hostOps0, hostOps0_1, hostOps0_2, List.flatten_cons, List.flatten_nil, List.append_nil, List.cons_append,
    List.nil_append]
  entry_read
  rfl

theorem ent23 (c : Dev nD) :
    StableHlo.after [hostOps0, hostOps0_1, hostOps0_2].flatten (fun b => m (c, b)) (Proc.tc.devRef main_v23) = shapeCast S3x512 (m ((c : Thread nD τ).loc main_arg5)) shapeCasts_S1x3x512_S3x512 := by
  simp only [hostOps0, hostOps0_1, hostOps0_2, List.flatten_cons, List.flatten_nil, List.append_nil, List.cons_append,
    List.nil_append]
  entry_read
  rfl

theorem ent25 (c : Dev nD) :
    StableHlo.after [hostOps0, hostOps0_1, hostOps0_2].flatten (fun b => m (c, b)) (Proc.tc.devRef main_v25) = shapeCast S1x512 (shapeCast S512 (m ((c : Thread nD τ).loc main_arg6)) shapeCasts_S1x512_S512) shapeCasts_S512_S1x512 := by
  simp only [hostOps0, hostOps0_1, hostOps0_2, List.flatten_cons, List.flatten_nil, List.append_nil, List.cons_append,
    List.nil_append]
  entry_read
  rfl

theorem host0 (X : (⟨S4x4096x1024, .f32⟩ : BufTy).Contents (Elt Ideal)) (n : Fin 16384) (k : Fin 1024) :
    shapeCast S16384x1024 X shapeCasts_S4x4096x1024_S16384x1024 (ix2 n k) = X (ix3 ⟨n.val / 4096, by omega⟩ ⟨n.val % 4096, by omega⟩ k) := by
  pointwise
  try blk_ext

/-- The row operand's block: row `r` of point `t` is row `512 * t + r`. -/
theorem blk0 (c : Dev nD) (t : Fin cfg0.N) (r : Fin 512) (k : Fin 1024) (n : Fin 16384) (h : n.val = t.val * 512 + r.val) :
    iblk m c 0 t (ix2 r k) = m ((c : Thread nD τ).loc main_arg0) (ix3 ⟨n.val / 4096, by omega⟩ ⟨n.val % 4096, by omega⟩ k) := by
  have hn := n.isLt
  refine (congrFun (ent0 m c) _).trans ?_
  rw [show (win0_0.blk t).view.emb (ix2 r k) = ix2 n k from by blk_ext [idx t]]
  exact host0 (m ((c : Thread nD τ).loc main_arg0)) n k

theorem host10 (X : (⟨S1x1024, .f32⟩ : BufTy).Contents (Elt Ideal)) (k : Fin 1024) :
    shapeCast S1x1024 (shapeCast S1024 X shapeCasts_S1x1024_S1024) shapeCasts_S1024_S1x1024 (ix2 0 k) = X (ix2 0 k) := by
  pointwise
  try blk_ext

/-- The weights' blocks are the weights; a head's gains are repeated along the heads. -/
theorem blk1 (c : Dev nD) (t : Fin cfg0.N) (k : Fin 1024) :
    iblk m c 1 t (ix2 0 k) = m ((c : Thread nD τ).loc main_arg1) (ix2 0 k) := by
  refine (congrFun (ent10 m c) _).trans ?_
  rw [show (win0_1.blk t).view.emb (ix2 0 k) = ix2 0 k from by blk_ext [idx t]]
  exact host10 (m ((c : Thread nD τ).loc main_arg1)) k

theorem host12 (X : (⟨S1x1024x3072, .f32⟩ : BufTy).Contents (Elt Ideal)) (k : Fin 1024) (l : Fin 3072) :
    truncf (F := Ideal) .bf16 (shapeCast S1024x3072 X shapeCasts_S1x1024x3072_S1024x3072) bitsLt_bf16_f32 (ix2 k l) = X (ix3 0 k l) := by
  pointwise
  try blk_ext

theorem blk2 (c : Dev nD) (t : Fin cfg0.N) (k : Fin 1024) (l : Fin 3072) :
    iblk m c 2 t (ix2 k l) = m ((c : Thread nD τ).loc main_arg2) (ix3 0 k l) := by
  refine (congrFun (ent12 m c) _).trans ?_
  rw [show (win0_2.blk t).view.emb (ix2 k l) = ix2 k l from by blk_ext [idx t]]
  exact host12 (m ((c : Thread nD τ).loc main_arg2)) k l

theorem host17 (X : (⟨S1x64, .f32⟩ : BufTy).Contents (Elt Ideal)) (j : Fin 512) :
    shapeCast S1x512 (shapeCast S512 (broadcastInDim S8x64 ![0, 1] bcast_S1x64_S8x64_0_1 (shapeCast S1x64
    (shapeCast S64 X shapeCasts_S1x64_S64) shapeCasts_S64_S1x64)) shapeCasts_S8x64_S512) shapeCasts_S512_S1x512 (ix2 0 j) = X (ix2 0 ⟨j.val % 64, by omega⟩) := by
  pointwise
  try blk_ext

theorem blk3 (c : Dev nD) (t : Fin cfg0.N) (j : Fin 512) :
    iblk m c 3 t (ix2 0 j) = m ((c : Thread nD τ).loc main_arg3) (ix2 0 ⟨j.val % 64, by omega⟩) := by
  refine (congrFun (ent17 m c) _).trans ?_
  rw [show (win0_3.blk t).view.emb (ix2 0 j) = ix2 0 j from by blk_ext [idx t]]
  exact host17 (m ((c : Thread nD τ).loc main_arg3)) j

theorem host22 (X : (⟨S1x64, .f32⟩ : BufTy).Contents (Elt Ideal)) (j : Fin 512) :
    shapeCast S1x512 (shapeCast S512 (broadcastInDim S8x64 ![0, 1] bcast_S1x64_S8x64_0_1 (shapeCast S1x64
    (shapeCast S64 X shapeCasts_S1x64_S64) shapeCasts_S64_S1x64)) shapeCasts_S8x64_S512) shapeCasts_S512_S1x512 (ix2 0 j) = X (ix2 0 ⟨j.val % 64, by omega⟩) := by
  pointwise
  try blk_ext

theorem blk4 (c : Dev nD) (t : Fin cfg0.N) (j : Fin 512) :
    iblk m c 4 t (ix2 0 j) = m ((c : Thread nD τ).loc main_arg4) (ix2 0 ⟨j.val % 64, by omega⟩) := by
  refine (congrFun (ent22 m c) _).trans ?_
  rw [show (win0_4.blk t).view.emb (ix2 0 j) = ix2 0 j from by blk_ext [idx t]]
  exact host22 (m ((c : Thread nD τ).loc main_arg4)) j

theorem host23 (X : (⟨S1x3x512, .f32⟩ : BufTy).Contents (Elt Ideal)) (i : Fin 3) (j : Fin 512) :
    shapeCast S3x512 X shapeCasts_S1x3x512_S3x512 (ix2 i j) = X (ix3 0 i j) := by
  pointwise
  try blk_ext

theorem blk6 (c : Dev nD) (t : Fin cfg0.N) (i : Fin 3) (j : Fin 512) :
    iblk m c 6 t (ix2 i j) = m ((c : Thread nD τ).loc main_arg5) (ix3 0 i j) := by
  refine (congrFun (ent23 m c) _).trans ?_
  rw [show (win0_6.blk t).view.emb (ix2 i j) = ix2 i j from by blk_ext [idx t]]
  exact host23 (m ((c : Thread nD τ).loc main_arg5)) i j

theorem host25 (X : (⟨S1x512, .f32⟩ : BufTy).Contents (Elt Ideal)) (j : Fin 512) :
    shapeCast S1x512 (shapeCast S512 X shapeCasts_S1x512_S512) shapeCasts_S512_S1x512 (ix2 0 j) = X (ix2 0 j) := by
  pointwise
  try blk_ext

theorem blk7 (c : Dev nD) (t : Fin cfg0.N) (j : Fin 512) :
    iblk m c 7 t (ix2 0 j) = m ((c : Thread nD τ).loc main_arg6) (ix2 0 j) := by
  refine (congrFun (ent25 m c) _).trans ?_
  rw [show (win0_7.blk t).view.emb (ix2 0 j) = ix2 0 j from by blk_ext [idx t]]
  exact host25 (m ((c : Thread nD τ).loc main_arg6)) j

end Cert.InProjIdeal.Result

end
-- ==== Proof.InProjGroup.lean ====
/- The matrix that joins the lanes of one head, built by the call `InProjIdeal` from a counter. -/
module

public import proofs.«01_k».proof.Proof.Gen.InProjIdeal.Value
public import Idealize.ShloMosaic.Lib.Pipeline.ValueKit

@[expose] public section

set_option maxRecDepth 16384

noncomputable section

namespace Cert.InProjIdeal.Result

open Cert.InProjIdeal Cert.InProjIdeal.Gen Idealize.ShloMosaic Idealize.ShloMosaic.TcCoe Idealize.SL.Sem

variable (m : (ℓ : Loc nD τ sig) → Buf (Elt Ideal) ℓ)

/-- The head that each lane of a 256-lane group belongs to, as the host computes it: the lane's number over 64, rounded down. -/
def seg : (⟨S256, .i32⟩ : BufTy).Contents (Elt Ideal) :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The matrix: one where the two lanes belong to one head, zero elsewhere. -/
def group : (⟨S256x256, .bf16⟩ : BufTy).Contents (Elt Ideal) :=
  uitofp (F := Ideal) .bf16 (cmpi .eq
    (broadcastInDim S256x256 ![0, 1] bcast_S256x1_S256x256_0_1 (broadcastInDim S256x1 ![0] bcast_S256_S256x1_0 seg))
    (broadcastInDim S256x256 ![0, 1] bcast_S1x256_S256x256_0_1 (broadcastInDim S1x256 ![1] bcast_S256_S1x256_1 seg)))

theorem ent8 (c : Dev nD) :
    StableHlo.after [hostOps0, hostOps0_1, hostOps0_2].flatten (fun b => m (c, b)) (Proc.tc.devRef main_v8) = group := by
  simp only [hostOps0, hostOps0_1, hostOps0_2, List.flatten_cons, List.flatten_nil, List.append_nil, List.cons_append,
    List.nil_append]
  entry_read
  rfl

theorem seg_at : ∀ a : Fin 256, seg (ix1 a) = BitVec.ofNat 32 (a.val / 64) := by decide +kernel

theorem group_at (a b : Fin 256) : group (ix2 a b) = if a.val / 64 = b.val / 64 then (1 : EReal) else 0 := by
  pointwise [group, seg_at]
  have hc : ∀ p q : Fin 4, IntOp.cmpi CmpIPredicate.eq (BitVec.ofNat 32 p.val) (BitVec.ofNat 32 q.val)
      = if p.val = q.val then 1#1 else 0#1 := by decide +kernel
  have := hc ⟨a.val / 64, by omega⟩ ⟨b.val / 64, by omega⟩
  simp only at this
  rw [this]
  split
  · show (((1#1 : BitVec 1).toNat : ℝ) : EReal) = 1
    simp
  · show (((0#1 : BitVec 1).toNat : ℝ) : EReal) = 0
    simp

theorem blk5 (c : Dev nD) (t : Fin cfg0.N) (a b : Fin 256) (h5 : win0_5.index t = ![0, 0]) :
    iblk m c 5 t (ix2 a b) = if a.val / 64 = b.val / 64 then (1 : EReal) else 0 := by
  rw [← group_at]
  refine (congrFun (ent8 m c) _).trans ?_
  rw [show (win0_5.blk t).view.emb (ix2 a b) = ix2 a b from by blk_ext [h5]]

end Cert.InProjIdeal.Result

end
-- ==== Proof.InProjTile.lean ====
/- What one block of `InProjIdeal` computes, row by row, as the results' rows. -/
module

public import proofs.«01_k».proof.Proof.InProjPay
public import proofs.«01_k».proof.Proof.InSpec

@[expose] public section

set_option maxRecDepth 16384

noncomputable section

namespace Cert.InProjIdeal.Tile

open Cert.InProjIdeal Cert.InProjIdeal.Gen Idealize.ShloMosaic Cert.Rows Cert.InProjIdeal.Pay

variable {B T : ℕ} (X : FVec Ideal ⟨3, ![B, T, 1024]⟩ .f32) (gm : FVec Ideal ⟨2, ![1, 1024]⟩ .f32)
  (w : FVec Ideal ⟨3, ![1, 1024, 3072]⟩ .f32) (gq : FVec Ideal ⟨2, ![1, 64]⟩ .f32) (b : Fin B) (s : Fin T)
  (x : FVec Ideal S512x1024 .f32) (g : FVec Ideal S1x1024 .f32) (e : FVec Ideal S256x256 .bf16)
  (v v' : FVec Ideal S1024x512 .bf16) (gv : FVec Ideal S1x512 .f32) (r : Fin 512)

/-- A block of the weights, met by the row's normalised entries, is a part of the row's projection. -/
theorem part_row (hx : ∀ k, x (ix2 r k) = X (ix3 b s k)) (hg : ∀ k, g (ix2 0 k) = gm (ix2 0 k)) (o : ℕ) (ho : o + 512 ≤ 3072)
    (hv : ∀ k (l : Fin 512), v (ix2 k l) = w (ix3 0 k ⟨o + l.val, by omega⟩)) :
    mv (fun k => k0_pay5 (F := Ideal) x g (ix2 r k)) (fun k l => v (ix2 k l)) = partAt X gm w o ho b s := by
  funext j
  simp only [hn_row, hx, hg, hv]
  rfl

theorem q_tile (hx : ∀ k, x (ix2 r k) = X (ix3 b s k)) (hg : ∀ k, g (ix2 0 k) = gm (ix2 0 k))
    (hv : ∀ k (l : Fin 512), v (ix2 k l) = w (ix3 0 k ⟨0 + l.val, by omega⟩))
    (he : ∀ a b, e (ix2 a b) = if a.val / 64 = b.val / 64 then 1 else 0)
    (hq : ∀ j : Fin 512, gv (ix2 0 j) = gq (ix2 0 ⟨j.val % 64, by omega⟩)) (j : Fin 512) :
    k0_pay7 (F := Ideal) x g e v gv (ix2 r j) * qscale = qAt X gm w gq b s j := by
  rw [q_row x g e v gv he (fun d => gq (ix2 0 d)) hq r j]
  simp only [hx, hg, hv]
  rfl

theorem k_tile (hx : ∀ k, x (ix2 r k) = X (ix3 b s k)) (hg : ∀ k, g (ix2 0 k) = gm (ix2 0 k))
    (hv : ∀ k (l : Fin 512), v (ix2 k l) = w (ix3 0 k ⟨512 + l.val, by omega⟩))
    (he : ∀ a b, e (ix2 a b) = if a.val / 64 = b.val / 64 then 1 else 0)
    (hq : ∀ j : Fin 512, gv (ix2 0 j) = gq (ix2 0 ⟨j.val % 64, by omega⟩)) (j : Fin 512) :
    k0_pay9 (F := Ideal) (k0_pay5 x g) (k0_pay6 e) v gv (ix2 r j) = kAt X gm w gq b s j := by
  rw [k_row _ e v gv he (fun d => gq (ix2 0 d)) hq r j, part_row X gm w b s x g v r hx hg 512 (by omega) hv]
  rfl

theorem v_tile (hx : ∀ k, x (ix2 r k) = X (ix3 b s k)) (hg : ∀ k, g (ix2 0 k) = gm (ix2 0 k))
    (hv : ∀ k (l : Fin 512), v (ix2 k l) = w (ix3 0 k ⟨1024 + l.val, by omega⟩)) (j : Fin 512) :
    k0_pay10 (F := Ideal) (k0_pay5 x g) v (ix2 r j) = vAt X gm w b s j := by
  rw [v_row, part_row X gm w b s x g v r hx hg 1024 (by omega) hv]
  rfl

theorem b_tile (hx : ∀ k, x (ix2 r k) = X (ix3 b s k)) (hg : ∀ k, g (ix2 0 k) = gm (ix2 0 k))
    (hv : ∀ k (l : Fin 512), v (ix2 k l) = w (ix3 0 k ⟨1536 + l.val, by omega⟩)) (j : Fin 512) :
    k0_pay11 (F := Ideal) (k0_pay5 x g) v (ix2 r j) = partAt X gm w 1536 (by omega) b s j := by
  rw [b_row, part_row X gm w b s x g v r hx hg 1536 (by omega) hv]

theorem u_tile (hx : ∀ k, x (ix2 r k) = X (ix3 b s k)) (hg : ∀ k, g (ix2 0 k) = gm (ix2 0 k))
    (hv : ∀ k (l : Fin 512), v (ix2 k l) = w (ix3 0 k ⟨2048 + l.val, by omega⟩))
    (hv' : ∀ k (l : Fin 512), v' (ix2 k l) = w (ix3 0 k ⟨2560 + l.val, by omega⟩)) (j : Fin 512) :
    k0_pay12 (F := Ideal) (k0_pay5 x g) v v' (ix2 r j) = uAt X gm w b s j := by
  rw [u_row, part_row X gm w b s x g v r hx hg 2048 (by omega) hv, part_row X gm w b s x g v' r hx hg 2560 (by omega) hv']
  rfl

theorem c_tile (bb uu : FVec Ideal S512x512 .f32) (cv : FVec Ideal S3x512 .f32) (p2 p1 : FVec Ideal S512x512 .f32)
    (cn : FVec Ideal S1x512 .f32) (cw : FVec Ideal ⟨3, ![1, 3, 512]⟩ .f32) (gc : FVec Ideal ⟨2, ![1, 512]⟩ .f32)
    (u2 u1 : Fin 512 → EReal) (hb : ∀ k, bb (ix2 r k) = partAt X gm w 1536 (by omega) b s k)
    (hu : ∀ k, uu (ix2 r k) = uAt X gm w b s k) (h2 : ∀ k, p2 (ix2 r k) = u2 k) (h1 : ∀ k, p1 (ix2 r k) = u1 k)
    (hc : ∀ i k, cv (ix2 i k) = cw (ix3 0 i k)) (hn : ∀ k, cn (ix2 0 k) = gc (ix2 0 k)) (j : Fin 512) :
    k0_pay1 (F := Ideal) bb uu (k0_pay20 cv) (k0_pay21 cv) p2 p1 cn (ix2 r j) = cAt X gm w cw gc u2 u1 b s j := by
  rw [c_row]
  simp only [hb, hu, h2, h1, hc, hn]
  rfl

end Cert.InProjIdeal.Tile

end
-- ==== Proof.InProjResult.lean ====
/- The result arrays of the call `InProjIdeal` after a run. -/
module

public import proofs.«01_k».proof.Proof.InProjBlk
public import proofs.«01_k».proof.Proof.InProjGroup
public import proofs.«01_k».proof.Proof.InProjTile

public import Idealize.ShloMosaic.Lib.WritesUnit

@[expose] public section

set_option maxRecDepth 16384

noncomputable section

namespace Cert.InProjIdeal.Result

open Cert.InProjIdeal Cert.InProjIdeal.Gen Idealize.ShloMosaic Idealize.ShloMosaic.TcCoe Idealize.SL.Sem Cert.Rows

section

variable (x : Vec Ideal S1024x3072 .bf16) (k : Fin 1024) (l : Fin 512)

/-- A load of 512 columns of the weights' block is those columns. -/
theorem ld_w0 : View.ld x (Rect.unit (s := S1024x3072) ![0, 0] ![1024, 512] inb_S1024x3072_S1024x512_0_0) (ix2 k l) = x (ix2 k ⟨0 + l.val, by omega⟩) := by
  pointwise
  try blk_ext

theorem ld_w1 : View.ld x (Rect.unit (s := S1024x3072) ![0, 512] ![1024, 512] inb_S1024x3072_S1024x512_0_512) (ix2 k l) = x (ix2 k ⟨512 + l.val, by omega⟩) := by
  pointwise
  try blk_ext

theorem ld_w2 : View.ld x (Rect.unit (s := S1024x3072) ![0, 1024] ![1024, 512] inb_S1024x3072_S1024x512_0_1024) (ix2 k l) = x (ix2 k ⟨1024 + l.val, by omega⟩) := by
  pointwise
  try blk_ext

theorem ld_w3 : View.ld x (Rect.unit (s := S1024x3072) ![0, 1536] ![1024, 512] inb_S1024x3072_S1024x512_0_1536) (ix2 k l) = x (ix2 k ⟨1536 + l.val, by omega⟩) := by
  pointwise
  try blk_ext

theorem ld_w4 : View.ld x (Rect.unit (s := S1024x3072) ![0, 2048] ![1024, 512] inb_S1024x3072_S1024x512_0_2048) (ix2 k l) = x (ix2 k ⟨2048 + l.val, by omega⟩) := by
  pointwise
  try blk_ext

theorem ld_w5 : View.ld x (Rect.unit (s := S1024x3072) ![0, 2560] ![1024, 512] inb_S1024x3072_S1024x512_0_2560) (ix2 k l) = x (ix2 k ⟨2560 + l.val, by omega⟩) := by
  pointwise
  try blk_ext

end

/-- What is stored of a computed block: the scaled queries, the keys and values turned round, the rows as they are. -/
theorem scaled (a : FVec Ideal S512x512 .f32) (r : Fin 512) (j : Fin 512) :
    k0_pay13 (F := Ideal) a (k0_pay8 (F := Ideal)) (ix2 r j) = a (ix2 r j) * qscale := by pointwise [k0_pay13, k0_pay8, qscale]

theorem turnedK (a : FVec Ideal S512x512 .f32) (j r : Fin 512) : k0_pay14 (F := Ideal) a (ix3 0 j r) = a (ix2 r j) := by
  pointwise [k0_pay14]

theorem turnedV (a : FVec Ideal S512x512 .f32) (j r : Fin 512) : k0_pay15 (F := Ideal) a (ix3 0 j r) = a (ix2 r j) := by
  pointwise [k0_pay15]

theorem castK (a : FVec Ideal S512x512 .f32) (r j : Fin 512) : k0_pay16 (F := Ideal) a (ix2 r j) = a (ix2 r j) := by pointwise [k0_pay16]

theorem castV (a : FVec Ideal S512x512 .f32) (r j : Fin 512) : k0_pay17 (F := Ideal) a (ix2 r j) = a (ix2 r j) := by pointwise [k0_pay17]

theorem kept (a : FVec Ideal S512x512 .f32) (r j : Fin 512) : k0_pay19 (F := Ideal) a (ix2 r j) = a (ix2 r j) := by pointwise [k0_pay19]

theorem cleared (r : Fin 8) (j : Fin 512) : k0_pay18 (F := Ideal) (ix2 r j) = 0 := by pointwise [k0_pay18]

theorem last8 (a : FVec Ideal S512x512 .f32) (r : Fin 8) (j : Fin 512) :
    k0_pay3 (F := Ideal) a (ix2 r j) = a (ix2 ⟨504 + r.val, by omega⟩ j) := by pointwise [k0_pay3, k0_pay2]

theorem tail8 (a : FVec Ideal S512x512 .f32) (r : Fin 8) (j : Fin 512) :
    k0_pay4 (F := Ideal) a (ix3 0 r j) = a (ix2 ⟨504 + r.val, by omega⟩ j) := by pointwise [k0_pay4, k0_pay2]

/-- The scratch rows: rows 8 to 520 hold the tile's rows, rows 0 to 8 the eight rows before them. -/
theorem read_tile {sp : Space} (v : View sig .tc sp S520x512 .f32) (f : v.ty.Contents (Elt Ideal))
    (P : S512x512.Idx → Elt Ideal .f32) (L : List (View.Piece (Elt Ideal) S520x512 .f32)) (y : S520x512.Idx) (r k : Fin 512)
    (h0 : (y 0).val = 8 + r.val) (h1 : (y 1).val = k.val) :
    v.read (Elt Ideal) (v.writes (Elt Ideal) f
      ((⟨Rect.unit (s := S520x512) ![8, 0] ![512, 512] inb_S520x512_S512x512_8_0, P⟩ : View.Piece (Elt Ideal) S520x512 .f32) :: L)) y
      = P (ix2 r k) :=
  View.read_writes_cons_rows_of_mem (o := 8) v f inb_S520x512_S512x512_8_0 P L y (ix2 r k) rfl h0 h1

theorem read_before {sp : Space} (v : View sig .tc sp S520x512 .f32) (f : v.ty.Contents (Elt Ideal))
    (P : S512x512.Idx → Elt Ideal .f32) (L : List (View.Piece (Elt Ideal) S520x512 .f32)) (y : S520x512.Idx) (h0 : (y 0).val < 8) :
    v.read (Elt Ideal) (v.writes (Elt Ideal) f
      ((⟨Rect.unit (s := S520x512) ![8, 0] ![512, 512] inb_S520x512_S512x512_8_0, P⟩ : View.Piece (Elt Ideal) S520x512 .f32) :: L)) y
      = v.read (Elt Ideal) (v.writes (Elt Ideal) f L) y :=
  View.read_writes_cons_rows_of_not_mem (o := 8) (W := 512) v f inb_S520x512_S512x512_8_0 P L y rfl rfl (Or.inl h0)

theorem read_head {sp : Space} (v : View sig .tc sp S520x512 .f32) (f : v.ty.Contents (Elt Ideal))
    (P : S8x512.Idx → Elt Ideal .f32) (L : List (View.Piece (Elt Ideal) S520x512 .f32)) (y : S520x512.Idx) (r : Fin 8) (k : Fin 512)
    (h0 : (y 0).val = r.val) (h1 : (y 1).val = k.val) :
    v.read (Elt Ideal) (v.writes (Elt Ideal) f
      ((⟨Rect.unit (s := S520x512) ![0, 0] ![8, 512] inb_S520x512_S8x512_0_0, P⟩ : View.Piece (Elt Ideal) S520x512 .f32) :: L)) y
      = P (ix2 r k) :=
  View.read_writes_cons_rows_of_mem (o := 0) v f inb_S520x512_S8x512_0_0 P L y (ix2 r k) rfl (h0.trans (Nat.zero_add _).symm) h1

theorem canon_emb (R : Rect S520x512) (P : R.shape.Idx → Elt Ideal .f32) (L : List (View.Piece (Elt Ideal) S520x512 .f32)) (x : R.shape.Idx)
    (y : S520x512.Idx) (hy : y = R.emb x) : View.canon ((⟨R, P⟩ : View.Piece (Elt Ideal) S520x512 .f32) :: L) y = P x := by
  subst hy
  exact View.canon_cons_emb R P L x
theorem head_kept (P : S8x512.Idx → Elt Ideal .f32) (L : List (View.Piece (Elt Ideal) S520x512 .f32)) (r : Fin 8) (j : Fin 512)
    (y : S520x512.Idx) (hy : y = (Rect.unit (s := S520x512) ![0, 0] ![8, 512] inb_S520x512_S8x512_0_0).emb (ix2 r j)) :
    View.canon ((⟨Rect.unit (s := S520x512) ![0, 0] ![8, 512] inb_S520x512_S8x512_0_0, P⟩ : View.Piece (Elt Ideal) S520x512 .f32) :: L)
      y = P (ix2 r j) :=
  canon_emb (Rect.unit (s := S520x512) ![0, 0] ![8, 512] inb_S520x512_S8x512_0_0) P L (ix2 r j) y hy

theorem head_row (r : Fin 8) (j : Fin 512) : (ix2 ⟨r.val, by omega⟩ j : S520x512.Idx)
    = (Rect.unit (s := S520x512) ![0, 0] ![8, 512] inb_S520x512_S8x512_0_0).emb (ix2 r j) := by
  blk_ext

/-- The same for a load of rows `B` of the scratch. -/
theorem load_tile (P : S512x512.Idx → Elt Ideal .f32) (L : List (View.Piece (Elt Ideal) S520x512 .f32)) (B : LoadRect S520x512)
    (z : B.shape.Idx) (r k : Fin 512) (h0 : (B.idx z 0).val = 8 + r.val) (h1 : (B.idx z 1).val = k.val) :
    (View.whole cc0_scratch0).readCov
      ((⟨Rect.unit (s := S520x512) ![8, 0] ![512, 512] inb_S520x512_S512x512_8_0, P⟩ : View.Piece (Elt Ideal) S520x512 .f32) :: L) B z
      = P (ix2 r k) :=
  read_tile (View.whole cc0_scratch0) _ P L (B.idx z) r k h0 h1

theorem load_head (P : S512x512.Idx → Elt Ideal .f32) (Z : S8x512.Idx → Elt Ideal .f32) (B : LoadRect S520x512)
    (z : B.shape.Idx) (r : Fin 8) (k : Fin 512) (h0 : (B.idx z 0).val = r.val) (h1 : (B.idx z 1).val = k.val) :
    (View.whole cc0_scratch0).readCov
      [(⟨Rect.unit (s := S520x512) ![8, 0] ![512, 512] inb_S520x512_S512x512_8_0, P⟩ : View.Piece (Elt Ideal) S520x512 .f32),
        ⟨Rect.unit (s := S520x512) ![0, 0] ![8, 512] inb_S520x512_S8x512_0_0, Z⟩] B z
      = Z (ix2 r k) :=
  (read_before (View.whole cc0_scratch0) _ P _ (B.idx z) (by omega)).trans
    (read_head (View.whole cc0_scratch0) _ Z [] (B.idx z) r k h0 h1)

variable (m : (ℓ : Loc nD τ sig) → Buf (Elt Ideal) ℓ)

/-- The results, row `n` of all sequences' rows laid one after another. -/
def QR (c : Dev nD) (n : Fin 16384) (j : Fin 512) : EReal :=
  qAt (m ((c : Thread nD τ).loc main_arg0)) (m ((c : Thread nD τ).loc main_arg1)) (m ((c : Thread nD τ).loc main_arg2))
    (m ((c : Thread nD τ).loc main_arg3)) ⟨n.val / 4096, by omega⟩ ⟨n.val % 4096, by omega⟩ j

def KR (c : Dev nD) (n : Fin 16384) (j : Fin 512) : EReal :=
  kAt (m ((c : Thread nD τ).loc main_arg0)) (m ((c : Thread nD τ).loc main_arg1)) (m ((c : Thread nD τ).loc main_arg2))
    (m ((c : Thread nD τ).loc main_arg4)) ⟨n.val / 4096, by omega⟩ ⟨n.val % 4096, by omega⟩ j

def VR (c : Dev nD) (n : Fin 16384) (j : Fin 512) : EReal :=
  vAt (m ((c : Thread nD τ).loc main_arg0)) (m ((c : Thread nD τ).loc main_arg1)) (m ((c : Thread nD τ).loc main_arg2))
    ⟨n.val / 4096, by omega⟩ ⟨n.val % 4096, by omega⟩ j

def UR (c : Dev nD) (n : Fin 16384) (j : Fin 512) : EReal :=
  uAt (m ((c : Thread nD τ).loc main_arg0)) (m ((c : Thread nD τ).loc main_arg1)) (m ((c : Thread nD τ).loc main_arg2))
    ⟨n.val / 4096, by omega⟩ ⟨n.val % 4096, by omega⟩ j

def UB (c : Dev nD) (d : ℕ) (n : Fin 16384) (j : Fin 512) : EReal :=
  uBack (m ((c : Thread nD τ).loc main_arg0)) (m ((c : Thread nD τ).loc main_arg1)) (m ((c : Thread nD τ).loc main_arg2)) d
    ⟨n.val / 4096, by omega⟩ ⟨n.val % 4096, by omega⟩ j

def CR (c : Dev nD) (n : Fin 16384) (j : Fin 512) : EReal :=
  cAt (m ((c : Thread nD τ).loc main_arg0)) (m ((c : Thread nD τ).loc main_arg1)) (m ((c : Thread nD τ).loc main_arg2))
    (m ((c : Thread nD τ).loc main_arg5)) (m ((c : Thread nD τ).loc main_arg6)) (UB m c 2 n) (UB m c 1 n)
    ⟨n.val / 4096, by omega⟩ ⟨n.val % 4096, by omega⟩ j

/-- Rows before the sequence's start count as zero; the others are the rows themselves. -/
theorem UB_zero (c : Dev nD) (d : ℕ) (n : Fin 16384) (j : Fin 512) (h : n.val % 4096 < d) : UB m c d n j = 0 := by
  unfold UB uBack
  rw [dif_pos h]

theorem UB_row (c : Dev nD) (d : ℕ) (n n' : Fin 16384) (j : Fin 512) (h : ¬ n.val % 4096 < d) (hn : n'.val + d = n.val) :
    UB m c d n j = UR m c n' j := by
  unfold UB uBack UR
  rw [dif_neg h]
  have e1 : n.val / 4096 = n'.val / 4096 := by omega
  have e2 : n.val % 4096 - d = n'.val % 4096 := by omega
  simp only [e1, e2]

section

variable (c : Dev nD) (t : Fin cfg0.N) (r : Fin 512) (n : Fin 16384) (h : n.val = t.val * 512 + r.val) (j : Fin 512)

include h
theorem out8 : (outsAt0 m c t.val t.isLt).1 (ix2 r j) = QR m c n j := by
  by_cases h0 : t.val % 8 = 0
  · rw [outsAt0_A m c t h0]
    frame_out
    refine (scaled _ r j).trans ?_
    exact Tile.q_tile _ _ _ _ _ _ _ _ _ _ _ r (fun k => blk0 m c t r k n h) (fun k => blk1 m c t k)
      (fun k l => (ld_w0 _ k l).trans (blk2 m c t k _)) (fun a b => blk5 m c t a b (idx t).1.2.2.2.2.2.1) (fun j => blk3 m c t j) j
  · rw [outsAt0_B m c t h0]
    frame_out
    refine (scaled _ r j).trans ?_
    exact Tile.q_tile _ _ _ _ _ _ _ _ _ _ _ r (fun k => blk0 m c t r k n h) (fun k => blk1 m c t k)
      (fun k l => (ld_w0 _ k l).trans (blk2 m c t k _)) (fun a b => blk5 m c t a b (idx t).1.2.2.2.2.2.1) (fun j => blk3 m c t j) j

theorem out9 : (outsAt0 m c t.val t.isLt).2.1 (ix3 0 j r) = KR m c n j := by
  by_cases h0 : t.val % 8 = 0
  · rw [outsAt0_A m c t h0]
    frame_out
    refine (turnedK _ j r).trans ?_
    exact Tile.k_tile _ _ _ _ _ _ _ _ _ _ _ r (fun k => blk0 m c t r k n h) (fun k => blk1 m c t k)
      (fun k l => (ld_w1 _ k l).trans (blk2 m c t k _)) (fun a b => blk5 m c t a b (idx t).1.2.2.2.2.2.1) (fun j => blk4 m c t j) j
  · rw [outsAt0_B m c t h0]
    frame_out
    refine (turnedK _ j r).trans ?_
    exact Tile.k_tile _ _ _ _ _ _ _ _ _ _ _ r (fun k => blk0 m c t r k n h) (fun k => blk1 m c t k)
      (fun k l => (ld_w1 _ k l).trans (blk2 m c t k _)) (fun a b => blk5 m c t a b (idx t).1.2.2.2.2.2.1) (fun j => blk4 m c t j) j

theorem out10 : (outsAt0 m c t.val t.isLt).2.2.1 (ix3 0 j r) = VR m c n j := by
  by_cases h0 : t.val % 8 = 0
  · rw [outsAt0_A m c t h0]
    frame_out
    refine (turnedV _ j r).trans ?_
    exact Tile.v_tile _ _ _ _ _ _ _ _ r (fun k => blk0 m c t r k n h) (fun k => blk1 m c t k)
      (fun k l => (ld_w2 _ k l).trans (blk2 m c t k _)) j
  · rw [outsAt0_B m c t h0]
    frame_out
    refine (turnedV _ j r).trans ?_
    exact Tile.v_tile _ _ _ _ _ _ _ _ r (fun k => blk0 m c t r k n h) (fun k => blk1 m c t k)
      (fun k l => (ld_w2 _ k l).trans (blk2 m c t k _)) j

theorem out11 : (outsAt0 m c t.val t.isLt).2.2.2.1 (ix2 r j) = KR m c n j := by
  by_cases h0 : t.val % 8 = 0
  · rw [outsAt0_A m c t h0]
    frame_out
    refine (castK _ r j).trans ?_
    exact Tile.k_tile _ _ _ _ _ _ _ _ _ _ _ r (fun k => blk0 m c t r k n h) (fun k => blk1 m c t k)
      (fun k l => (ld_w1 _ k l).trans (blk2 m c t k _)) (fun a b => blk5 m c t a b (idx t).1.2.2.2.2.2.1) (fun j => blk4 m c t j) j
  · rw [outsAt0_B m c t h0]
    frame_out
    refine (castK _ r j).trans ?_
    exact Tile.k_tile _ _ _ _ _ _ _ _ _ _ _ r (fun k => blk0 m c t r k n h) (fun k => blk1 m c t k)
      (fun k l => (ld_w1 _ k l).trans (blk2 m c t k _)) (fun a b => blk5 m c t a b (idx t).1.2.2.2.2.2.1) (fun j => blk4 m c t j) j

theorem out12 : (outsAt0 m c t.val t.isLt).2.2.2.2.1 (ix2 r j) = VR m c n j := by
  by_cases h0 : t.val % 8 = 0
  · rw [outsAt0_A m c t h0]
    frame_out
    refine (castV _ r j).trans ?_
    exact Tile.v_tile _ _ _ _ _ _ _ _ r (fun k => blk0 m c t r k n h) (fun k => blk1 m c t k)
      (fun k l => (ld_w2 _ k l).trans (blk2 m c t k _)) j
  · rw [outsAt0_B m c t h0]
    frame_out
    refine (castV _ r j).trans ?_
    exact Tile.v_tile _ _ _ _ _ _ _ _ r (fun k => blk0 m c t r k n h) (fun k => blk1 m c t k)
      (fun k l => (ld_w2 _ k l).trans (blk2 m c t k _)) j

end

section

variable (c : Dev nD) (t : Fin cfg0.N) (r : Fin 8) (n : Fin 16384) (h : n.val = t.val * 512 + (504 + r.val)) (j : Fin 512)

include h

/-- The last eight rows of the tile that go into the convolution: written out, and kept for the next tile. -/
theorem out14 : (outsAt0 m c t.val t.isLt).2.2.2.2.2.2.1 (ix3 0 r j) = UR m c n j := by
  by_cases h0 : t.val % 8 = 0
  · rw [outsAt0_A m c t h0]
    frame_out
    refine (tail8 _ r j).trans ?_
    exact Tile.u_tile _ _ _ _ _ _ _ _ _ ⟨504 + r.val, by omega⟩ (fun k => blk0 m c t ⟨504 + r.val, by omega⟩ k n h) (fun k => blk1 m c t k)
      (fun k l => (ld_w4 _ k l).trans (blk2 m c t k _)) (fun k l => (ld_w5 _ k l).trans (blk2 m c t k _)) j
  · rw [outsAt0_B m c t h0]
    frame_out
    refine (tail8 _ r j).trans ?_
    exact Tile.u_tile _ _ _ _ _ _ _ _ _ ⟨504 + r.val, by omega⟩ (fun k => blk0 m c t ⟨504 + r.val, by omega⟩ k n h) (fun k => blk1 m c t k)
      (fun k l => (ld_w4 _ k l).trans (blk2 m c t k _)) (fun k l => (ld_w5 _ k l).trans (blk2 m c t k _)) j

theorem carried : (outsAt0 m c t.val t.isLt).2.2.2.2.2.2.2 (ix2 ⟨r.val, by omega⟩ j) = UR m c n j := by
  by_cases h0 : t.val % 8 = 0
  · rw [outsAt0_A m c t h0]
    frame_out
    refine (head_kept _ _ r j _ (head_row r j)).trans ?_
    refine (last8 _ r j).trans ?_
    exact Tile.u_tile _ _ _ _ _ _ _ _ _ ⟨504 + r.val, by omega⟩ (fun k => blk0 m c t ⟨504 + r.val, by omega⟩ k n h) (fun k => blk1 m c t k)
      (fun k l => (ld_w4 _ k l).trans (blk2 m c t k _)) (fun k l => (ld_w5 _ k l).trans (blk2 m c t k _)) j
  · rw [outsAt0_B m c t h0]
    frame_out
    refine (head_kept _ _ r j _ (head_row r j)).trans ?_
    refine (last8 _ r j).trans ?_
    exact Tile.u_tile _ _ _ _ _ _ _ _ _ ⟨504 + r.val, by omega⟩ (fun k => blk0 m c t ⟨504 + r.val, by omega⟩ k n h) (fun k => blk1 m c t k)
      (fun k l => (ld_w4 _ k l).trans (blk2 m c t k _)) (fun k l => (ld_w5 _ k l).trans (blk2 m c t k _)) j

end

section

variable (c : Dev nD) (t : Fin cfg0.N) (r : Fin 512) (n : Fin 16384) (h : n.val = t.val * 512 + r.val) (j : Fin 512)

include h

theorem out13 : (outsAt0 m c t.val t.isLt).2.2.2.2.2.1 (ix2 r j) = CR m c n j := by
  have ht : t.val < 32 := t.isLt
  by_cases h0 : t.val % 8 = 0
  · rw [outsAt0_A m c t h0]
    frame_out
    refine Tile.c_tile _ _ _ _ _ r _ _ _ _ _ _ _ _ _ _
      (fun k => Tile.b_tile _ _ _ _ _ _ _ _ r (fun k => blk0 m c t r k n h) (fun k => blk1 m c t k)
        (fun k l => (ld_w3 _ k l).trans (blk2 m c t k _)) k)
      (fun k => Tile.u_tile _ _ _ _ _ _ _ _ _ r (fun k => blk0 m c t r k n h) (fun k => blk1 m c t k)
      (fun k l => (ld_w4 _ k l).trans (blk2 m c t k _)) (fun k l => (ld_w5 _ k l).trans (blk2 m c t k _)) k)
      (fun k => ?_) (fun k => ?_) (fun i k => blk6 m c t i k) (fun k => blk7 m c t k) j
    · by_cases hr : r.val < 2
      · refine Eq.trans ?_ (UB_zero m c 2 n k (by omega)).symm
        refine (load_head _ _ _ _ ⟨r.val + 6, by omega⟩ k ?_ ?_).trans ?_
        · show 6 + 1 * r.val = r.val + 6
          omega
        · show 0 + 1 * k.val = k.val
          omega
        exact cleared _ k
      · refine Eq.trans ?_ (UB_row m c 2 n ⟨n.val - 2, by omega⟩ k (by omega) (by simp only; omega)).symm
        refine (load_tile _ _ _ _ ⟨r.val - 2, by omega⟩ k ?_ ?_).trans ?_
        · show 6 + 1 * r.val = 8 + (r.val - 2)
          omega
        · show 0 + 1 * k.val = k.val
          omega
        refine (kept _ _ k).trans ?_
        exact Tile.u_tile _ _ _ _ _ _ _ _ _ ⟨r.val - 2, by omega⟩ (fun k => blk0 m c t ⟨r.val - 2, by omega⟩ k ⟨n.val - 2, by omega⟩ (by simp only; omega)) (fun k => blk1 m c t k)
            (fun k l => (ld_w4 _ k l).trans (blk2 m c t k _)) (fun k l => (ld_w5 _ k l).trans (blk2 m c t k _)) k
    · by_cases hr : r.val < 1
      · refine Eq.trans ?_ (UB_zero m c 1 n k (by omega)).symm
        refine (load_head _ _ _ _ ⟨r.val + 7, by omega⟩ k ?_ ?_).trans ?_
        · show 7 + 1 * r.val = r.val + 7
          omega
        · show 0 + 1 * k.val = k.val
          omega
        exact cleared _ k
      · refine Eq.trans ?_ (UB_row m c 1 n ⟨n.val - 1, by omega⟩ k (by omega) (by simp only; omega)).symm
        refine (load_tile _ _ _ _ ⟨r.val - 1, by omega⟩ k ?_ ?_).trans ?_
        · show 7 + 1 * r.val = 8 + (r.val - 1)
          omega
        · show 0 + 1 * k.val = k.val
          omega
        refine (kept _ _ k).trans ?_
        exact Tile.u_tile _ _ _ _ _ _ _ _ _ ⟨r.val - 1, by omega⟩ (fun k => blk0 m c t ⟨r.val - 1, by omega⟩ k ⟨n.val - 1, by omega⟩ (by simp only; omega)) (fun k => blk1 m c t k)
            (fun k l => (ld_w4 _ k l).trans (blk2 m c t k _)) (fun k l => (ld_w5 _ k l).trans (blk2 m c t k _)) k
  · rw [outsAt0_B m c t h0]
    frame_out
    refine Tile.c_tile _ _ _ _ _ r _ _ _ _ _ _ _ _ _ _
      (fun k => Tile.b_tile _ _ _ _ _ _ _ _ r (fun k => blk0 m c t r k n h) (fun k => blk1 m c t k)
        (fun k l => (ld_w3 _ k l).trans (blk2 m c t k _)) k)
      (fun k => Tile.u_tile _ _ _ _ _ _ _ _ _ r (fun k => blk0 m c t r k n h) (fun k => blk1 m c t k)
      (fun k l => (ld_w4 _ k l).trans (blk2 m c t k _)) (fun k l => (ld_w5 _ k l).trans (blk2 m c t k _)) k)
      (fun k => ?_) (fun k => ?_) (fun i k => blk6 m c t i k) (fun k => blk7 m c t k) j
    · by_cases hr : r.val < 2
      · refine Eq.trans ?_ (UB_row m c 2 n ⟨n.val - 2, by omega⟩ k (by omega) (by simp only; omega)).symm
        refine (read_before _ _ _ _ _ ?_).trans ?_
        · show 6 + 1 * r.val < 8
          omega
        refine (congrFun (Memref.IsWhole.read_unread _ _) _).trans ?_
        have e : (Rect.unit (s := S520x512) ![6, 0] ![512, 512] inb_S520x512_S512x512_6_0).idx (ix2 r k)
            = ix2 ⟨r.val + 6, by omega⟩ k :=
          funext (Fin.forall_fin_two.mpr ⟨Fin.ext (by show 6 + 1 * r.val = r.val + 6; omega), Fin.ext (by show 0 + 1 * k.val = k.val; omega)⟩)
        refine (congrArg _ e).trans ?_
        exact carried m c ⟨t.val - 1, by omega⟩ ⟨r.val + 6, by omega⟩ _ (by simp only; omega) k
      · refine Eq.trans ?_ (UB_row m c 2 n ⟨n.val - 2, by omega⟩ k (by omega) (by simp only; omega)).symm
        refine (read_tile _ _ _ _ _ ⟨r.val - 2, by omega⟩ k ?_ ?_).trans ?_
        · show 6 + 1 * r.val = 8 + (r.val - 2)
          omega
        · show 0 + 1 * k.val = k.val
          omega
        refine (kept _ _ k).trans ?_
        exact Tile.u_tile _ _ _ _ _ _ _ _ _ ⟨r.val - 2, by omega⟩ (fun k => blk0 m c t ⟨r.val - 2, by omega⟩ k ⟨n.val - 2, by omega⟩ (by simp only; omega)) (fun k => blk1 m c t k)
            (fun k l => (ld_w4 _ k l).trans (blk2 m c t k _)) (fun k l => (ld_w5 _ k l).trans (blk2 m c t k _)) k
    · by_cases hr : r.val < 1
      · refine Eq.trans ?_ (UB_row m c 1 n ⟨n.val - 1, by omega⟩ k (by omega) (by simp only; omega)).symm
        refine (read_before _ _ _ _ _ ?_).trans ?_
        · show 7 + 1 * r.val < 8
          omega
        refine (congrFun (Memref.IsWhole.read_unread _ _) _).trans ?_
        have e : (Rect.unit (s := S520x512) ![7, 0] ![512, 512] inb_S520x512_S512x512_7_0).idx (ix2 r k)
            = ix2 ⟨r.val + 7, by omega⟩ k :=
          funext (Fin.forall_fin_two.mpr ⟨Fin.ext (by show 7 + 1 * r.val = r.val + 7; omega), Fin.ext (by show 0 + 1 * k.val = k.val; omega)⟩)
        refine (congrArg _ e).trans ?_
        exact carried m c ⟨t.val - 1, by omega⟩ ⟨r.val + 7, by omega⟩ _ (by simp only; omega) k
      · refine Eq.trans ?_ (UB_row m c 1 n ⟨n.val - 1, by omega⟩ k (by omega) (by simp only; omega)).symm
        refine (read_tile _ _ _ _ _ ⟨r.val - 1, by omega⟩ k ?_ ?_).trans ?_
        · show 7 + 1 * r.val = 8 + (r.val - 1)
          omega
        · show 0 + 1 * k.val = k.val
          omega
        refine (kept _ _ k).trans ?_
        exact Tile.u_tile _ _ _ _ _ _ _ _ _ ⟨r.val - 1, by omega⟩ (fun k => blk0 m c t ⟨r.val - 1, by omega⟩ k ⟨n.val - 1, by omega⟩ (by simp only; omega)) (fun k => blk1 m c t k)
            (fun k l => (ld_w4 _ k l).trans (blk2 m c t k _)) (fun k l => (ld_w5 _ k l).trans (blk2 m c t k _)) k

end

/-- The result arrays as functions of the argument arrays. -/
abbrev GQ (c : Dev nD) : FVec Ideal S16384x512 .bf16 := fun i => QR m c (i 0) (i 1)

abbrev GKT (c : Dev nD) : FVec Ideal S4x512x4096 .f32 := fun i =>
  KR m c ⟨(i 0).val * 4096 + (i 2).val, by have := (i 0).isLt; have := (i 2).isLt; simp at *; omega⟩ (i 1)

abbrev GVT (c : Dev nD) : FVec Ideal S4x512x4096 .f32 := fun i =>
  VR m c ⟨(i 0).val * 4096 + (i 2).val, by have := (i 0).isLt; have := (i 2).isLt; simp at *; omega⟩ (i 1)

abbrev GK (c : Dev nD) : FVec Ideal S16384x512 .bf16 := fun i => KR m c (i 0) (i 1)

abbrev GV (c : Dev nD) : FVec Ideal S16384x512 .bf16 := fun i => VR m c (i 0) (i 1)

abbrev GC (c : Dev nD) : FVec Ideal S16384x512 .bf16 := fun i => CR m c (i 0) (i 1)

abbrev GT (c : Dev nD) : FVec Ideal S4x8x512 .f32 := fun i =>
  UR m c ⟨(i 0).val * 4096 + 4088 + (i 1).val, by have := (i 0).isLt; have := (i 1).isLt; simp at *; omega⟩ (i 2)

/-- Each result array after the run: the blocks written back tile it. -/
theorem final8' (c : Dev nD) : (dats m 0 c).arrAt 8 cfg0.N = GQ m c := by
  refine (dats m 0 c).arrAt_eq_of_covers 8 _ (by decide +kernel) fun t _ y => ?_
  blk_simp
  rw [after0_8]
  idx_vars y
  have h0 : (((View.whole main_v26_0).slice (win0_8.rect t)).emb (ix2 y0 y1) 0).val = t.val * 512 + y0.val := by blk_simp [idx t]
  have h1 : y1 = ((View.whole main_v26_0).slice (win0_8.rect t)).emb (ix2 y0 y1) 1 := by apply Fin.ext; blk_simp [idx t]
  refine (out8 m c t y0 _ h0 y1).trans ?_
  exact congrArg (QR m c _) h1

theorem final11' (c : Dev nD) : (dats m 0 c).arrAt 11 cfg0.N = GK m c := by
  refine (dats m 0 c).arrAt_eq_of_covers 11 _ (by decide +kernel) fun t _ y => ?_
  blk_simp
  rw [after0_11]
  idx_vars y
  have h0 : (((View.whole main_v26_3).slice (win0_11.rect t)).emb (ix2 y0 y1) 0).val = t.val * 512 + y0.val := by blk_simp [idx t]
  have h1 : y1 = ((View.whole main_v26_3).slice (win0_11.rect t)).emb (ix2 y0 y1) 1 := by apply Fin.ext; blk_simp [idx t]
  refine (out11 m c t y0 _ h0 y1).trans ?_
  exact congrArg (KR m c _) h1

theorem final12' (c : Dev nD) : (dats m 0 c).arrAt 12 cfg0.N = GV m c := by
  refine (dats m 0 c).arrAt_eq_of_covers 12 _ (by decide +kernel) fun t _ y => ?_
  blk_simp
  rw [after0_12]
  idx_vars y
  have h0 : (((View.whole main_v26_4).slice (win0_12.rect t)).emb (ix2 y0 y1) 0).val = t.val * 512 + y0.val := by blk_simp [idx t]
  have h1 : y1 = ((View.whole main_v26_4).slice (win0_12.rect t)).emb (ix2 y0 y1) 1 := by apply Fin.ext; blk_simp [idx t]
  refine (out12 m c t y0 _ h0 y1).trans ?_
  exact congrArg (VR m c _) h1

theorem final13' (c : Dev nD) : (dats m 0 c).arrAt 13 cfg0.N = GC m c := by
  refine (dats m 0 c).arrAt_eq_of_covers 13 _ (by decide +kernel) fun t _ y => ?_
  blk_simp
  rw [after0_13]
  idx_vars y
  have h0 : (((View.whole main_v26_5).slice (win0_13.rect t)).emb (ix2 y0 y1) 0).val = t.val * 512 + y0.val := by blk_simp [idx t]
  have h1 : y1 = ((View.whole main_v26_5).slice (win0_13.rect t)).emb (ix2 y0 y1) 1 := by apply Fin.ext; blk_simp [idx t]
  refine (out13 m c t y0 _ h0 y1).trans ?_
  exact congrArg (CR m c _) h1

theorem final9' (c : Dev nD) : (dats m 0 c).arrAt 9 cfg0.N = GKT m c := by
  refine (dats m 0 c).arrAt_eq_of_covers 9 _ (by decide +kernel) fun t _ y => ?_
  blk_simp
  rw [after0_9]
  idx_vars y
  obtain rfl : y0 = 0 := Subsingleton.elim _ _
  have h0 : (((View.whole main_v26_1).slice (win0_9.rect t)).emb (ix3 0 y1 y2) 0).val = t.val / 8 := by
    blk_simp [idx t]
    rfl
  have h1 : y1 = ((View.whole main_v26_1).slice (win0_9.rect t)).emb (ix3 0 y1 y2) 1 := by apply Fin.ext; blk_simp [idx t]
  have h2 : (((View.whole main_v26_1).slice (win0_9.rect t)).emb (ix3 0 y1 y2) 2).val = t.val % 8 * 512 + y2.val := by blk_simp [idx t]
  have ht : t.val < 32 := t.isLt
  refine (out9 m c t y2 ⟨t.val * 512 + y2.val, by omega⟩ rfl y1).trans ?_
  refine congr (congrArg (KR m c) (Fin.ext ?_)) h1
  exact ((congrArg₂ (fun a b => a * 4096 + b) h0 h2).trans (show t.val / 8 * 4096 + (t.val % 8 * 512 + y2.val) = t.val * 512 + y2.val by omega)).symm

theorem final10' (c : Dev nD) : (dats m 0 c).arrAt 10 cfg0.N = GVT m c := by
  refine (dats m 0 c).arrAt_eq_of_covers 10 _ (by decide +kernel) fun t _ y => ?_
  blk_simp
  rw [after0_10]
  idx_vars y
  obtain rfl : y0 = 0 := Subsingleton.elim _ _
  have h0 : (((View.whole main_v26_2).slice (win0_10.rect t)).emb (ix3 0 y1 y2) 0).val = t.val / 8 := by
    blk_simp [idx t]
    rfl
  have h1 : y1 = ((View.whole main_v26_2).slice (win0_10.rect t)).emb (ix3 0 y1 y2) 1 := by apply Fin.ext; blk_simp [idx t]
  have h2 : (((View.whole main_v26_2).slice (win0_10.rect t)).emb (ix3 0 y1 y2) 2).val = t.val % 8 * 512 + y2.val := by blk_simp [idx t]
  have ht : t.val < 32 := t.isLt
  refine (out10 m c t y2 ⟨t.val * 512 + y2.val, by omega⟩ rfl y1).trans ?_
  refine congr (congrArg (VR m c) (Fin.ext ?_)) h1
  exact ((congrArg₂ (fun a b => a * 4096 + b) h0 h2).trans (show t.val / 8 * 4096 + (t.val % 8 * 512 + y2.val) = t.val * 512 + y2.val by omega)).symm

theorem final14' (c : Dev nD) : (dats m 0 c).arrAt 14 cfg0.N = GT m c := by
  refine (dats m 0 c).arrAt_eq_of_covers 14 _ (by decide +kernel) fun t hf y => ?_
  have h7 : t.val % 8 = 7 := (flush0_14 t).mp hf
  blk_simp
  rw [after0_14]
  idx_vars y
  obtain rfl : y0 = 0 := Subsingleton.elim _ _
  have h0 : (((View.whole main_v26_6).slice (win0_14.rect t)).emb (ix3 0 y1 y2) 0).val = t.val / 8 := by
    blk_simp [idx t]
    rfl
  have h1 : (((View.whole main_v26_6).slice (win0_14.rect t)).emb (ix3 0 y1 y2) 1).val = y1.val := by blk_simp [idx t]
  have h2 : y2 = ((View.whole main_v26_6).slice (win0_14.rect t)).emb (ix3 0 y1 y2) 2 := by apply Fin.ext; blk_simp [idx t]
  have ht : t.val < 32 := t.isLt
  refine (out14 m c t y1 ⟨t.val * 512 + (504 + y1.val), by omega⟩ rfl y2).trans ?_
  refine congr (congrArg (UR m c) (Fin.ext ?_)) h2
  exact ((congrArg₂ (fun a b => a * 4096 + 4088 + b) h0 h1).trans (show t.val / 8 * 4096 + 4088 + y1.val = t.val * 512 + (504 + y1.val) by omega)).symm

end Cert.InProjIdeal.Result

end
-- ==== Proof.InProjRead.lean ====
/- The stages of the reference `RefInIdeal`, row by row, as the same functions of the arguments. -/
module

public import proofs.«01_k».proof.Proof.Gen.RefInIdeal.Read
public import proofs.«01_k».proof.Proof.InSpec

@[expose] public section

set_option maxRecDepth 16384

noncomputable section

namespace Cert.RefInIdeal.Rows

open Cert.RefInIdeal Cert.RefInIdeal.Gen Cert.RefInIdeal.Read Idealize.ShloMosaic Cert.Rows

variable (X : FVec Ideal S4x4096x1024 .f32) (gm : FVec Ideal S1x1024 .f32) (w : FVec Ideal S1x1024x3072 .f32)
  (gq gk : FVec Ideal S1x64 .f32) (cw : FVec Ideal S1x3x512 .f32) (gc : FVec Ideal S1x512 .f32)

/-- The normalised row. -/
theorem hn_row (b : Fin 4) (s : Fin 4096) (k : Fin 1024) :
    val_main_v13 (F := Ideal) X gm (ix3 b s k) = nrm len1024 (fun a => X (ix3 b s a)) (fun a => gm (ix2 0 a)) k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    nrm, rinv, eps, len1024]

/-- The projection. -/
theorem proj_row (b : Fin 4) (s : Fin 4096) (l : Fin 3072) :
    val_main_v17 (F := Ideal) X gm w (ix3 b s l)
      = ∑ k, nrm len1024 (fun a => X (ix3 b s a)) (fun a => gm (ix2 0 a)) k * w (ix3 0 k l) := by
  pointwise [val_main_v17, hn_row, val_main_v14]

/-- Its six parts. -/
theorem part0 (b : Fin 4) (s : Fin 4096) (j : Fin 512) :
    val_main_v18 (F := Ideal) X gm w (ix3 b s j) = partAt X gm w 0 (by omega) b s j := by
  pointwise [val_main_v18, proj_row, partAt, part, mv]

theorem part1 (b : Fin 4) (s : Fin 4096) (j : Fin 512) :
    val_main_v19 (F := Ideal) X gm w (ix3 b s j) = partAt X gm w 512 (by omega) b s j := by
  pointwise [val_main_v19, proj_row, partAt, part, mv]

theorem part2 (b : Fin 4) (s : Fin 4096) (j : Fin 512) :
    val_main_v20 (F := Ideal) X gm w (ix3 b s j) = vAt X gm w b s j := by
  pointwise [val_main_v20, proj_row, vAt, partAt, part, mv]

theorem part3 (b : Fin 4) (s : Fin 4096) (j : Fin 512) :
    val_main_v21 (F := Ideal) X gm w (ix3 b s j) = partAt X gm w 1536 (by omega) b s j := by
  pointwise [val_main_v21, proj_row, partAt, part, mv]

theorem u_row (b : Fin 4) (s : Fin 4096) (j : Fin 512) :
    val_main_v53 (F := Ideal) X gm w (ix3 b s j) = uAt X gm w b s j := by
  pointwise [val_main_v53, val_main_v22, val_main_v23, proj_row, uAt, partAt, part, mv]

/-- The normalised heads of the queries and the keys. -/
theorem q_heads (b : Fin 4) (s : Fin 4096) (h : Fin 8) (d : Fin 64) :
    val_main_v37 (F := Ideal) X gm w gq (ix4 b s h d)
      = heads (partAt X gm w 0 (by omega) b s) (fun d => gq (ix2 0 d)) ⟨h.val * 64 + d.val, by omega⟩ := by
  rw [heads_at]
  pointwise [val_main_v37, val_main_v36, val_main_v35, val_main_v34, val_main_v33, val_main_v32, val_main_v31, val_main_v30,
    val_main_v29, val_main_v28, val_main_v27, val_main_v26, val_main_v25, val_main_v24, val_main_v15, val_main_cst_2,
    val_main_cst_3, val_main_cst_4, part0, eps, len64]

theorem k_heads (b : Fin 4) (s : Fin 4096) (h : Fin 8) (d : Fin 64) :
    val_main_v51 (F := Ideal) X gm w gk (ix4 b s h d) = kAt X gm w gk b s ⟨h.val * 64 + d.val, by omega⟩ := by
  unfold kAt
  rw [heads_at]
  pointwise [val_main_v51, val_main_v50, val_main_v49, val_main_v48, val_main_v47, val_main_v46, val_main_v45, val_main_v44,
    val_main_v43, val_main_v42, val_main_v41, val_main_v40, val_main_v39, val_main_v38, val_main_v16, val_main_cst_5,
    val_main_cst_6, val_main_cst_7, part1, eps, len64]

/-- The gated and normalised convolution. -/
theorem c_row (b : Fin 4) (s : Fin 4096) (j : Fin 512) :
    val_main_v92 (F := Ideal) X gm w cw gc (ix3 b s j)
      = cAt X gm w cw gc (uBack X gm w 2 b s) (uBack X gm w 1 b s) b s j := by
  have hy : ∀ k : Fin 512, val_main_v76 (F := Ideal) X gm w cw (ix3 b s k)
      = conv (fun i k => cw (ix3 0 i k)) (uBack X gm w 2 b s) (uBack X gm w 1 b s) (uAt X gm w b s) k := by
    intro k
    pointwise [val_main_v76, val_main_v75, val_main_v74, val_main_v73, val_main_v72, val_main_v71, val_main_v70, val_main_v69,
      val_main_v68, val_main_v67, val_main_v66, val_main_v65, val_main_v64, val_main_v63, val_main_v62, val_main_v61,
      val_main_v60, val_main_v59, val_main_v58, val_main_v57, val_main_v56, val_main_v55, val_main_v54, val_main_cst_8, u_row, conv, uBack]
    have e : (if h : 1 + s.val < 2 then (0 : EReal) else uAt X gm w b ⟨1 + s.val - 2, by omega⟩ k)
        = if h : s.val < 1 then 0 else uAt X gm w b ⟨s.val - 1, by omega⟩ k := by
      by_cases h1 : s.val < 1
      · rw [dif_pos h1, dif_pos (by omega)]
      · rw [dif_neg h1, dif_neg (by omega)]
        exact congrArg (fun z => uAt X gm w b z k) (Fin.ext (by simp only; omega))
    rw [e]
  have hr : val_main_v92 (F := Ideal) X gm w cw gc (ix3 b s j)
      = nrm len512 (fun k => partAt X gm w 1536 (by omega) b s k * val_main_v76 (F := Ideal) X gm w cw (ix3 b s k))
          (fun k => gc (ix2 0 k)) j := by
    pointwise [val_main_v92, val_main_v91, val_main_v90, val_main_v89, val_main_v88, val_main_v87, val_main_v86, val_main_v85,
      val_main_v84, val_main_v83, val_main_v82, val_main_v81, val_main_v80, val_main_v79, val_main_v78, val_main_cst_9, val_main_cst_10, val_main_cst_11,
      part3, nrm, rinv, eps, len512]
  rw [hr]
  simp only [hy]
  rfl

/-- The results. -/
theorem q_res (n : Fin 16384) (j : Fin 512) : val_main_v98 (F := Ideal) X gm w gq (ix2 n j)
    = qAt X gm w gq ⟨n.val / 4096, by omega⟩ ⟨n.val % 4096, by omega⟩ j := by
  have h : val_main_v98 (F := Ideal) X gm w gq (ix2 n j)
      = val_main_v37 (F := Ideal) X gm w gq (ix4 ⟨n.val / 4096, by omega⟩ ⟨n.val % 4096, by omega⟩ ⟨j.val / 64, by omega⟩ ⟨j.val % 64, by omega⟩) * qscale := by
    pointwise [val_main_v98, val_main_v95, val_main_v94, val_main_v93, val_main_cst_12, qscale]
  rw [h, q_heads]
  unfold qAt
  congr 2
  exact Fin.ext (by simp only; omega)

theorem k_flat (b : Fin 4) (s : Fin 4096) (j : Fin 512) : val_main_v96 (F := Ideal) X gm w gk (ix3 b s j) = kAt X gm w gk b s j := by
  have h : val_main_v96 (F := Ideal) X gm w gk (ix3 b s j)
      = val_main_v51 (F := Ideal) X gm w gk (ix4 b s ⟨j.val / 64, by omega⟩ ⟨j.val % 64, by omega⟩) := by
    pointwise [val_main_v96]
  rw [h, k_heads]
  congr 1
  exact Fin.ext (by simp only; omega)

theorem v_flat (b : Fin 4) (s : Fin 4096) (j : Fin 512) : val_main_v97 (F := Ideal) X gm w (ix3 b s j) = vAt X gm w b s j := by
  rw [← part2]
  pointwise [val_main_v97, val_main_v52]

theorem kt_res (b : Fin 4) (j : Fin 512) (s : Fin 4096) : val_main_v99 (F := Ideal) X gm w gk (ix3 b j s) = kAt X gm w gk b s j := by
  rw [← k_flat]
  pointwise [val_main_v99]

theorem vt_res (b : Fin 4) (j : Fin 512) (s : Fin 4096) : val_main_v100 (F := Ideal) X gm w (ix3 b j s) = vAt X gm w b s j := by
  rw [← v_flat]
  pointwise [val_main_v100]

theorem kb_res (n : Fin 16384) (j : Fin 512) : val_main_v102 (F := Ideal) X gm w gk (ix2 n j)
    = kAt X gm w gk ⟨n.val / 4096, by omega⟩ ⟨n.val % 4096, by omega⟩ j := by
  rw [← k_flat]
  pointwise [val_main_v102, val_main_v101]

theorem vb_res (n : Fin 16384) (j : Fin 512) : val_main_v104 (F := Ideal) X gm w (ix2 n j)
    = vAt X gm w ⟨n.val / 4096, by omega⟩ ⟨n.val % 4096, by omega⟩ j := by
  rw [← v_flat]
  pointwise [val_main_v104, val_main_v103]

theorem c_res (n : Fin 16384) (j : Fin 512) : val_main_v106 (F := Ideal) X gm w cw gc (ix2 n j)
    = cAt X gm w cw gc (uBack X gm w 2 ⟨n.val / 4096, by omega⟩ ⟨n.val % 4096, by omega⟩)
        (uBack X gm w 1 ⟨n.val / 4096, by omega⟩ ⟨n.val % 4096, by omega⟩) ⟨n.val / 4096, by omega⟩ ⟨n.val % 4096, by omega⟩ j := by
  rw [← c_row]
  pointwise [val_main_v106, val_main_v105]

theorem tail_res (b : Fin 4) (s : Fin 8) (j : Fin 512) : val_main_v107 (F := Ideal) X gm w (ix3 b s j)
    = uAt X gm w b ⟨4088 + s.val, by omega⟩ j := by
  rw [← u_row]
  pointwise [val_main_v107]

end Cert.RefInIdeal.Rows

end
-- ==== Proof.InProjClaim.lean ====
/- The value claim of the call `InProjIdeal`: its result arrays are those of the written-out mathematics `RefInIdeal`. -/
module

public import proofs.«01_k».proof.Defs
public import proofs.«01_k».proof.Proof.Gen.InProjIdeal.Value
public import proofs.«01_k».proof.Proof.Gen.InProjIdeal.Frame
public import proofs.«01_k».proof.Proof.Gen.RefInIdeal.Run
public import proofs.«01_k».proof.Proof.Gen.RefInIdeal.Read
public import proofs.«01_k».proof.Proof.InProjResult
public import proofs.«01_k».proof.Proof.InProjRead
public import Idealize.ShloMosaic.Adequacy
public import Idealize.ShloMosaic.Lib.Claim
public import Idealize.ShloMosaic.Init

@[expose] public section

noncomputable section

namespace Cert.RefInIdeal.Rows

open Cert.RefInIdeal Cert.RefInIdeal.Read Idealize.ShloMosaic Cert.Rows

section

variable {X X' : FVec Ideal S4x4096x1024 .f32} {gm gm' : FVec Ideal S1x1024 .f32} {w w' : FVec Ideal S1x1024x3072 .f32} {gq gq' : FVec Ideal S1x64 .f32} {gk gk' : FVec Ideal S1x64 .f32} {cw cw' : FVec Ideal S1x3x512 .f32} {gc gc' : FVec Ideal S1x512 .f32}

/- Each result array as one function of its index, over arrays equal to those the kernel was given. -/
theorem q_all (h0 : X' = X) (h1 : gm' = gm) (h2 : w' = w) (h3 : gq' = gq) : val_main_v98 (F := Ideal) X' gm' w' gq'
    = (fun i => qAt X gm w gq ⟨(i 0).val / 4096, by have := (i 0).isLt; simp at this; omega⟩ ⟨(i 0).val % 4096, by omega⟩ (i 1) : FVec Ideal S16384x512 .bf16) := by
  subst h0 h1 h2 h3
  funext i
  idx_vars i
  exact q_res _ _ _ _ i0 i1

theorem kt_all (h0 : X' = X) (h1 : gm' = gm) (h2 : w' = w) (h4 : gk' = gk) : val_main_v99 (F := Ideal) X' gm' w' gk'
    = (fun i => kAt X gm w gk ⟨((i 0).val * 4096 + (i 2).val) / 4096, by have := (i 0).isLt; have := (i 2).isLt; simp at *; omega⟩ ⟨((i 0).val * 4096 + (i 2).val) % 4096, by omega⟩ (i 1) : FVec Ideal S4x512x4096 .f32) := by
  subst h0 h1 h2 h4
  funext i
  idx_vars i
  refine (kt_res _ _ _ _ i0 i1 i2).trans (congrArg₂ (fun b s => kAt X' gm' w' gk' b s i1) (Fin.ext ?_) (Fin.ext ?_))
  · show i0.val = (i0.val * 4096 + i2.val) / 4096
    omega
  · show i2.val = (i0.val * 4096 + i2.val) % 4096
    omega

theorem vt_all (h0 : X' = X) (h1 : gm' = gm) (h2 : w' = w) : val_main_v100 (F := Ideal) X' gm' w'
    = (fun i => vAt X gm w ⟨((i 0).val * 4096 + (i 2).val) / 4096, by have := (i 0).isLt; have := (i 2).isLt; simp at *; omega⟩ ⟨((i 0).val * 4096 + (i 2).val) % 4096, by omega⟩ (i 1) : FVec Ideal S4x512x4096 .f32) := by
  subst h0 h1 h2
  funext i
  idx_vars i
  refine (vt_res _ _ _ i0 i1 i2).trans (congrArg₂ (fun b s => vAt X' gm' w' b s i1) (Fin.ext ?_) (Fin.ext ?_))
  · show i0.val = (i0.val * 4096 + i2.val) / 4096
    omega
  · show i2.val = (i0.val * 4096 + i2.val) % 4096
    omega

theorem kb_all (h0 : X' = X) (h1 : gm' = gm) (h2 : w' = w) (h4 : gk' = gk) : val_main_v102 (F := Ideal) X' gm' w' gk'
    = (fun i => kAt X gm w gk ⟨(i 0).val / 4096, by have := (i 0).isLt; simp at this; omega⟩ ⟨(i 0).val % 4096, by omega⟩ (i 1) : FVec Ideal S16384x512 .bf16) := by
  subst h0 h1 h2 h4
  funext i
  idx_vars i
  exact kb_res _ _ _ _ i0 i1

theorem vb_all (h0 : X' = X) (h1 : gm' = gm) (h2 : w' = w) : val_main_v104 (F := Ideal) X' gm' w'
    = (fun i => vAt X gm w ⟨(i 0).val / 4096, by have := (i 0).isLt; simp at this; omega⟩ ⟨(i 0).val % 4096, by omega⟩ (i 1) : FVec Ideal S16384x512 .bf16) := by
  subst h0 h1 h2
  funext i
  idx_vars i
  exact vb_res _ _ _ i0 i1

theorem c_all (h0 : X' = X) (h1 : gm' = gm) (h2 : w' = w) (h5 : cw' = cw) (h6 : gc' = gc) : val_main_v106 (F := Ideal) X' gm' w' cw' gc'
    = (fun i => cAt X gm w cw gc (uBack X gm w 2 ⟨(i 0).val / 4096, by have := (i 0).isLt; simp at this; omega⟩ ⟨(i 0).val % 4096, by omega⟩) (uBack X gm w 1 ⟨(i 0).val / 4096, by have := (i 0).isLt; simp at this; omega⟩ ⟨(i 0).val % 4096, by omega⟩) ⟨(i 0).val / 4096, by have := (i 0).isLt; simp at this; omega⟩ ⟨(i 0).val % 4096, by omega⟩ (i 1) : FVec Ideal S16384x512 .bf16) := by
  subst h0 h1 h2 h5 h6
  funext i
  idx_vars i
  exact c_res _ _ _ _ _ i0 i1

theorem tail_all (h0 : X' = X) (h1 : gm' = gm) (h2 : w' = w) : val_main_v107 (F := Ideal) X' gm' w'
    = (fun i => uAt X gm w ⟨((i 0).val * 4096 + 4088 + (i 1).val) / 4096, by have := (i 0).isLt; have := (i 1).isLt; simp at *; omega⟩ ⟨((i 0).val * 4096 + 4088 + (i 1).val) % 4096, by omega⟩ (i 2) : FVec Ideal S4x8x512 .f32) := by
  subst h0 h1 h2
  funext i
  idx_vars i
  refine (tail_res _ _ _ i0 i1 i2).trans (congrArg₂ (fun b s => uAt X' gm' w' b s i2) (Fin.ext ?_) (Fin.ext ?_))
  · show i0.val = (i0.val * 4096 + 4088 + i1.val) / 4096
    omega
  · show 4088 + i1.val = (i0.val * 4096 + 4088 + i1.val) % 4096
    omega

end

end Cert.RefInIdeal.Rows

namespace Cert.Proof

open Idealize.ShloMosaic Idealize.SL.Sem

theorem frame_RefInIdeal : Cert.quiescent_RefInIdeal := fun m ρ _ =>
  (θ_run _ _ _).mono (fun r h => ⟨fun c => (h c).2.2.2.2.2.2.2,
      sem_eq_zero_of_no_sems (by decide) r.2⟩) (Cert.RefInIdeal.Value.run m ρ)

theorem value_InProjIdeal : Cert.algebraic_InProjIdeal_RefInIdeal := by
  intro m ρ m' ρ' _ hag
  refine ⟨fun c => Cert.InProjIdeal.Result.GQ m c, fun c => Cert.InProjIdeal.Result.GKT m c, fun c => Cert.InProjIdeal.Result.GVT m c, fun c => Cert.InProjIdeal.Result.GK m c, fun c => Cert.InProjIdeal.Result.GV m c, fun c => Cert.InProjIdeal.Result.GC m c, fun c => Cert.InProjIdeal.Result.GT m c, ?_, ?_⟩
  · refine (θ_run _ _ _).mono (fun r h c => ?_) (Cert.InProjIdeal.Value.run_blocks m ρ)
    have h := h c
    exact ⟨(h.1).trans (Cert.InProjIdeal.Result.final8' m c), (h.2.1).trans (Cert.InProjIdeal.Result.final9' m c), (h.2.2.1).trans (Cert.InProjIdeal.Result.final10' m c), (h.2.2.2.1).trans (Cert.InProjIdeal.Result.final11' m c), (h.2.2.2.2.1).trans (Cert.InProjIdeal.Result.final12' m c), (h.2.2.2.2.2.1).trans (Cert.InProjIdeal.Result.final13' m c), (h.2.2.2.2.2.2.1).trans (Cert.InProjIdeal.Result.final14' m c), h.2.2.2.2.2.2.2⟩
  · refine (θ_run _ _ _).mono (fun r h c => ?_) (Cert.RefInIdeal.Value.run m' ρ')
    have h := h c
    have a := hag c
    exact ⟨(h.1).trans ((Cert.RefInIdeal.Read.val_main_v98_eq m' c).trans (Cert.RefInIdeal.Rows.q_all (a.1) (a.2.1) (a.2.2.1) (a.2.2.2.1))),
      (h.2.1).trans ((Cert.RefInIdeal.Read.val_main_v99_eq m' c).trans (Cert.RefInIdeal.Rows.kt_all (a.1) (a.2.1) (a.2.2.1) (a.2.2.2.2.1))),
      (h.2.2.1).trans ((Cert.RefInIdeal.Read.val_main_v100_eq _ _ _).trans (Cert.RefInIdeal.Rows.vt_all (a.1) (a.2.1) (a.2.2.1))),
      (h.2.2.2.1).trans ((Cert.RefInIdeal.Read.val_main_v102_eq m' c).trans (Cert.RefInIdeal.Rows.kb_all (a.1) (a.2.1) (a.2.2.1) (a.2.2.2.2.1))),
      (h.2.2.2.2.1).trans ((Cert.RefInIdeal.Read.val_main_v104_eq _ _ _).trans (Cert.RefInIdeal.Rows.vb_all (a.1) (a.2.1) (a.2.2.1))),
      (h.2.2.2.2.2.1).trans ((Cert.RefInIdeal.Read.val_main_v106_eq m' c).trans (Cert.RefInIdeal.Rows.c_all (a.1) (a.2.1) (a.2.2.1) (a.2.2.2.2.2.1) (a.2.2.2.2.2.2))),
      (h.2.2.2.2.2.2.1).trans ((Cert.RefInIdeal.Read.val_main_v107_eq _ _ _).trans (Cert.RefInIdeal.Rows.tail_all (a.1) (a.2.1) (a.2.2.1))),
      h.2.2.2.2.2.2.2⟩

end Cert.Proof

end
-- ==== Proof.InSamplePay.lean ====
/- What the body of the call `InSampleIdeal` computes, read one row at a time. -/
module

public import proofs.«01_k».proof.Proof.Gen.InSampleIdeal.Skeleton
public import proofs.«01_k».proof.Proof.InRows

@[expose] public section

set_option maxRecDepth 16384

noncomputable section

namespace Cert.InSampleIdeal.Pay

open Cert.InSampleIdeal Cert.InSampleIdeal.Gen Idealize.ShloMosaic Cert.Rows

variable (x : FVec Ideal S128x1024 .f32) (g : FVec Ideal S1x1024 .f32) (hn : FVec Ideal S128x1024 .bf16)
  (e : FVec Ideal S256x256 .bf16) (w w' : FVec Ideal S1024x512 .bf16) (gq : FVec Ideal S1x512 .f32)

/-- The normalised row. -/
theorem hn_row (r : Fin 128) (k : Fin 1024) :
    k0_pay1 (F := Ideal) x g (ix2 r k) = nrm len1024 (fun a => x (ix2 r a)) (fun a => g (ix2 0 a)) k := by
  pointwise [k0_pay1, nrm, rinv, eps, len1024]

/-- The keys of a row, from its normalised row. -/
theorem k_row (he : ∀ a b, e (ix2 a b) = if a.val / 64 = b.val / 64 then 1 else 0) (G : Fin 64 → EReal)
    (hg : ∀ j : Fin 512, gq (ix2 0 j) = G ⟨j.val % 64, by omega⟩) (r : Fin 128) (j : Fin 512) :
    k0_pay6 (F := Ideal) hn (k0_pay2 e) w gq (ix2 r j)
      = heads (mv (fun k => hn (ix2 r k)) (fun k l => w (ix2 k l))) G j := by
  have hlow := sum_group_low (mv (fun k => hn (ix2 r k)) (fun k l => w (ix2 k l))) (fun a b => e (ix2 a b)) he j
  have hhigh := sum_group_high (mv (fun k => hn (ix2 r k)) (fun k l => w (ix2 k l))) (fun a b => e (ix2 a b)) he j
  unfold heads
  rw [← hg j]
  by_cases hj : j.val < 256
  · rw [← hlow hj, ← div64]
    pointwise [k0_pay6, k0_pay2, mv, eps]
    simp only [hj, dite_true]
  · rw [← hhigh hj, ← div64]
    pointwise [k0_pay6, k0_pay2, mv, eps]
    simp only [hj, dite_false]

/-- The queries of a row before they are scaled. -/
theorem q_row (he : ∀ a b, e (ix2 a b) = if a.val / 64 = b.val / 64 then 1 else 0) (G : Fin 64 → EReal)
    (hg : ∀ j : Fin 512, gq (ix2 0 j) = G ⟨j.val % 64, by omega⟩) (r : Fin 128) (j : Fin 512) :
    k0_pay3 (F := Ideal) x g e w gq (ix2 r j)
      = heads (mv (nrm len1024 (fun a => x (ix2 r a)) (fun a => g (ix2 0 a))) (fun k l => w (ix2 k l))) G j := by
  have h : k0_pay3 (F := Ideal) x g e w gq = k0_pay6 (F := Ideal) (k0_pay1 x g) (k0_pay2 e) w gq := rfl
  rw [h, k_row _ e w gq he G hg]
  simp only [hn_row]

/-- The values of a row. -/
theorem v_row (r : Fin 128) (j : Fin 512) :
    k0_pay7 (F := Ideal) hn w (ix2 r j) = mv (fun k => hn (ix2 r k)) (fun k l => w (ix2 k l)) j := by
  pointwise [k0_pay7, mv]

/-- The gate of a row. -/
theorem b_row (r : Fin 128) (j : Fin 512) :
    k0_pay8 (F := Ideal) hn w (ix2 r j) = mv (fun k => hn (ix2 r k)) (fun k l => w (ix2 k l)) j := by
  pointwise [k0_pay8, mv]

/-- The row that goes into the convolution. -/
theorem u_row (r : Fin 128) (j : Fin 512) :
    k0_pay9 (F := Ideal) hn w w' (ix2 r j)
      = mv (fun k => hn (ix2 r k)) (fun k l => w (ix2 k l)) j * mv (fun k => hn (ix2 r k)) (fun k l => w' (ix2 k l)) j := by
  pointwise [k0_pay9, mv]

/-- The convolution's row, gated and normalised. -/
theorem c_row (b u : FVec Ideal S128x512 .f32) (cw : FVec Ideal S3x512 .f32) (u2 u1 : FVec Ideal S128x512 .f32)
    (gn : FVec Ideal S1x512 .f32) (r : Fin 128) (j : Fin 512) :
    k0_pay10 (F := Ideal) b u cw u2 u1 gn (ix2 r j)
      = convOut (fun k => b (ix2 r k)) (conv (fun i k => cw (ix2 i k)) (fun k => u2 (ix2 r k)) (fun k => u1 (ix2 r k))
          (fun k => u (ix2 r k))) (fun k => gn (ix2 0 k)) j := by
  pointwise [k0_pay10, convOut, conv, nrm, rinv, eps, len512]

end Cert.InSampleIdeal.Pay

end
-- ==== Proof.InSampleBlk.lean ====
/- The blocks that the call `InSampleIdeal` stages, as parts of the call's arguments. -/
module

public import proofs.«01_k».proof.Proof.Gen.InSampleIdeal.Value
public import proofs.«01_k».proof.Proof.InSamplePay
public import proofs.«01_k».proof.Proof.InSpec
public import Idealize.ShloMosaic.Lib.Pipeline.ValueKit

@[expose] public section

set_option maxRecDepth 16384

noncomputable section

namespace Cert.InSampleIdeal.Result

open Cert.InSampleIdeal Cert.InSampleIdeal.Gen Idealize.ShloMosaic Idealize.ShloMosaic.TcCoe Idealize.SL.Sem Cert.Rows

variable (m : (ℓ : Loc nD τ sig) → Buf (Elt Ideal) ℓ)

/-- Where each window's block sits at every grid point. -/
theorem idx : ∀ t : Fin cfg0.N,
    (win0_0.index t = ![t.val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0])
    ∧ (win0_8.index t = ![t.val, 0] ∧ win0_9.index t = ![t.val, 0] ∧ win0_10.index t = ![t.val, 0] ∧ win0_11.index t = ![t.val, 0]
      ∧ win0_12.index t = ![t.val, 0] ∧ win0_13.index t = ![t.val, 0] ∧ win0_14.index t = ![t.val, 0]) :=
  (by decide +kernel : ∀ t : Fin grid0.N, _)

/-- What the host hands to the call: the argument arrays under other shapes. -/
theorem ent0 (c : Dev nD) :
    StableHlo.after [hostOps0, hostOps0_1, hostOps0_2].flatten (fun b => m (c, b)) (Proc.tc.devRef main_v0) = shapeCast S128x1024 (m ((c : Thread nD τ).loc main_arg0)) shapeCasts_S128x1x1024_S128x1024 := by
  simp only [hostOps0, hostOps0_1, hostOps0_2, List.flatten_cons, List.flatten_nil, List.append_nil, List.cons_append,
    List.nil_append]
  entry_read
  rfl

theorem ent10 (c : Dev nD) :
    StableHlo.after [hostOps0, hostOps0_1, hostOps0_2].flatten (fun b => m (c, b)) (Proc.tc.devRef main_v10) = shapeCast S1x1024 (shapeCast S1024 (m ((c : Thread nD τ).loc main_arg2)) shapeCasts_S1x1024_S1024) shapeCasts_S1024_S1x1024 := by
  simp only [hostOps0, hostOps0_1, hostOps0_2, List.flatten_cons, List.flatten_nil, List.append_nil, List.cons_append,
    List.nil_append]
  entry_read
  rfl

theorem ent12 (c : Dev nD) :
    StableHlo.after [hostOps0, hostOps0_1, hostOps0_2].flatten (fun b => m (c, b)) (Proc.tc.devRef main_v12) = truncf (F := Ideal) .bf16 (shapeCast S1024x3072 (m ((c : Thread nD τ).loc main_arg3)) shapeCasts_S1x1024x3072_S1024x3072) bitsLt_bf16_f32 := by
  simp only [hostOps0, hostOps0_1, hostOps0_2, List.flatten_cons, List.flatten_nil, List.append_nil, List.cons_append,
    List.nil_append]
  entry_read
  rfl

theorem ent17 (c : Dev nD) :
    StableHlo.after [hostOps0, hostOps0_1, hostOps0_2].flatten (fun b => m (c, b)) (Proc.tc.devRef main_v17) = shapeCast S1x512 (shapeCast S512 (broadcastInDim S8x64 ![0, 1] bcast_S1x64_S8x64_0_1 (shapeCast S1x64
    (shapeCast S64 (m ((c : Thread nD τ).loc main_arg4)) shapeCasts_S1x64_S64) shapeCasts_S64_S1x64)) shapeCasts_S8x64_S512) shapeCasts_S512_S1x512 := by
  simp only [hostOps0, hostOps0_1, hostOps0_2, List.flatten_cons, List.flatten_nil, List.append_nil, List.cons_append,
    List.nil_append]
  entry_read
  rfl

theorem ent22 (c : Dev nD) :
    StableHlo.after [hostOps0, hostOps0_1, hostOps0_2].flatten (fun b => m (c, b)) (Proc.tc.devRef main_v22) = shapeCast S1x512 (shapeCast S512 (broadcastInDim S8x64 ![0, 1] bcast_S1x64_S8x64_0_1 (shapeCast S1x64
    (shapeCast S64 (m ((c : Thread nD τ).loc main_arg5)) shapeCasts_S1x64_S64) shapeCasts_S64_S1x64)) shapeCasts_S8x64_S512) shapeCasts_S512_S1x512 := by
  simp only [hostOps0, hostOps0_1, hostOps0_2, List.flatten_cons, List.flatten_nil, List.append_nil, List.cons_append,
    List.nil_append]
  entry_read
  rfl

theorem ent23 (c : Dev nD) :
    StableHlo.after [hostOps0, hostOps0_1, hostOps0_2].flatten (fun b => m (c, b)) (Proc.tc.devRef main_v23) = shapeCast S3x512 (m ((c : Thread nD τ).loc main_arg6)) shapeCasts_S1x3x512_S3x512 := by
  simp only [hostOps0, hostOps0_1, hostOps0_2, List.flatten_cons, List.flatten_nil, List.append_nil, List.cons_append,
    List.nil_append]
  entry_read
  rfl

theorem ent25 (c : Dev nD) :
    StableHlo.after [hostOps0, hostOps0_1, hostOps0_2].flatten (fun b => m (c, b)) (Proc.tc.devRef main_v25) = shapeCast S1x512 (shapeCast S512 (m ((c : Thread nD τ).loc main_arg7)) shapeCasts_S1x512_S512) shapeCasts_S512_S1x512 := by
  simp only [hostOps0, hostOps0_1, hostOps0_2, List.flatten_cons, List.flatten_nil, List.append_nil, List.cons_append,
    List.nil_append]
  entry_read
  rfl

theorem ent28 (c : Dev nD) :
    StableHlo.after [hostOps0, hostOps0_1, hostOps0_2].flatten (fun b => m (c, b)) (Proc.tc.devRef main_v28) = shapeCast S128x512 (extractStridedSlice S128x1x512 ![0, 0, 0]
    (shapeCast S128x2x512 (m ((c : Thread nD τ).loc main_arg1)) shapeCasts_S1x128x2x512_S128x2x512) slices_S128x2x512_S128x1x512_0_0_0) shapeCasts_S128x1x512_S128x512 := by
  simp only [hostOps0, hostOps0_1, hostOps0_2, List.flatten_cons, List.flatten_nil, List.append_nil, List.cons_append,
    List.nil_append]
  entry_read
  rfl

theorem ent31 (c : Dev nD) :
    StableHlo.after [hostOps0, hostOps0_1, hostOps0_2].flatten (fun b => m (c, b)) (Proc.tc.devRef main_v31) = shapeCast S128x512 (extractStridedSlice S128x1x512 ![0, 1, 0]
    (shapeCast S128x2x512 (m ((c : Thread nD τ).loc main_arg1)) shapeCasts_S1x128x2x512_S128x2x512) slices_S128x2x512_S128x1x512_0_1_0) shapeCasts_S128x1x512_S128x512 := by
  simp only [hostOps0, hostOps0_1, hostOps0_2, List.flatten_cons, List.flatten_nil, List.append_nil, List.cons_append,
    List.nil_append]
  entry_read
  rfl

theorem host0 (X : (⟨S128x1x1024, .f32⟩ : BufTy).Contents (Elt Ideal)) (n : Fin 128) (k : Fin 1024) :
    shapeCast S128x1024 X shapeCasts_S128x1x1024_S128x1024 (ix2 n k) = X (ix3 n 0 k) := by
  pointwise
  try blk_ext

/-- The row operand's block: row `r` of point `t` is row `128 * t + r`. -/
theorem blk0 (c : Dev nD) (t : Fin cfg0.N) (r : Fin 128) (k : Fin 1024) (n : Fin 128) (h : n.val = t.val * 128 + r.val) :
    iblk m c 0 t (ix2 r k) = m ((c : Thread nD τ).loc main_arg0) (ix3 n 0 k) := by
  have hn := n.isLt
  refine (congrFun (ent0 m c) _).trans ?_
  rw [show (win0_0.blk t).view.emb (ix2 r k) = ix2 n k from by blk_ext [idx t]]
  exact host0 (m ((c : Thread nD τ).loc main_arg0)) n k

theorem host10 (X : (⟨S1x1024, .f32⟩ : BufTy).Contents (Elt Ideal)) (k : Fin 1024) :
    shapeCast S1x1024 (shapeCast S1024 X shapeCasts_S1x1024_S1024) shapeCasts_S1024_S1x1024 (ix2 0 k) = X (ix2 0 k) := by
  pointwise
  try blk_ext

/-- The weights' blocks are the weights; a head's gains are repeated along the heads. -/
theorem blk1 (c : Dev nD) (t : Fin cfg0.N) (k : Fin 1024) :
    iblk m c 1 t (ix2 0 k) = m ((c : Thread nD τ).loc main_arg2) (ix2 0 k) := by
  refine (congrFun (ent10 m c) _).trans ?_
  rw [show (win0_1.blk t).view.emb (ix2 0 k) = ix2 0 k from by blk_ext [idx t]]
  exact host10 (m ((c : Thread nD τ).loc main_arg2)) k

theorem host12 (X : (⟨S1x1024x3072, .f32⟩ : BufTy).Contents (Elt Ideal)) (k : Fin 1024) (l : Fin 3072) :
    truncf (F := Ideal) .bf16 (shapeCast S1024x3072 X shapeCasts_S1x1024x3072_S1024x3072) bitsLt_bf16_f32 (ix2 k l) = X (ix3 0 k l) := by
  pointwise
  try blk_ext

theorem blk2 (c : Dev nD) (t : Fin cfg0.N) (k : Fin 1024) (l : Fin 3072) :
    iblk m c 2 t (ix2 k l) = m ((c : Thread nD τ).loc main_arg3) (ix3 0 k l) := by
  refine (congrFun (ent12 m c) _).trans ?_
  rw [show (win0_2.blk t).view.emb (ix2 k l) = ix2 k l from by blk_ext [idx t]]
  exact host12 (m ((c : Thread nD τ).loc main_arg3)) k l

theorem host17 (X : (⟨S1x64, .f32⟩ : BufTy).Contents (Elt Ideal)) (j : Fin 512) :
    shapeCast S1x512 (shapeCast S512 (broadcastInDim S8x64 ![0, 1] bcast_S1x64_S8x64_0_1 (shapeCast S1x64
    (shapeCast S64 X shapeCasts_S1x64_S64) shapeCasts_S64_S1x64)) shapeCasts_S8x64_S512) shapeCasts_S512_S1x512 (ix2 0 j) = X (ix2 0 ⟨j.val % 64, by omega⟩) := by
  pointwise
  try blk_ext

theorem blk3 (c : Dev nD) (t : Fin cfg0.N) (j : Fin 512) :
    iblk m c 3 t (ix2 0 j) = m ((c : Thread nD τ).loc main_arg4) (ix2 0 ⟨j.val % 64, by omega⟩) := by
  refine (congrFun (ent17 m c) _).trans ?_
  rw [show (win0_3.blk t).view.emb (ix2 0 j) = ix2 0 j from by blk_ext [idx t]]
  exact host17 (m ((c : Thread nD τ).loc main_arg4)) j

theorem host22 (X : (⟨S1x64, .f32⟩ : BufTy).Contents (Elt Ideal)) (j : Fin 512) :
    shapeCast S1x512 (shapeCast S512 (broadcastInDim S8x64 ![0, 1] bcast_S1x64_S8x64_0_1 (shapeCast S1x64
    (shapeCast S64 X shapeCasts_S1x64_S64) shapeCasts_S64_S1x64)) shapeCasts_S8x64_S512) shapeCasts_S512_S1x512 (ix2 0 j) = X (ix2 0 ⟨j.val % 64, by omega⟩) := by
  pointwise
  try blk_ext

theorem blk4 (c : Dev nD) (t : Fin cfg0.N) (j : Fin 512) :
    iblk m c 4 t (ix2 0 j) = m ((c : Thread nD τ).loc main_arg5) (ix2 0 ⟨j.val % 64, by omega⟩) := by
  refine (congrFun (ent22 m c) _).trans ?_
  rw [show (win0_4.blk t).view.emb (ix2 0 j) = ix2 0 j from by blk_ext [idx t]]
  exact host22 (m ((c : Thread nD τ).loc main_arg5)) j

theorem host23 (X : (⟨S1x3x512, .f32⟩ : BufTy).Contents (Elt Ideal)) (i : Fin 3) (j : Fin 512) :
    shapeCast S3x512 X shapeCasts_S1x3x512_S3x512 (ix2 i j) = X (ix3 0 i j) := by
  pointwise
  try blk_ext

theorem blk6 (c : Dev nD) (t : Fin cfg0.N) (i : Fin 3) (j : Fin 512) :
    iblk m c 6 t (ix2 i j) = m ((c : Thread nD τ).loc main_arg6) (ix3 0 i j) := by
  refine (congrFun (ent23 m c) _).trans ?_
  rw [show (win0_6.blk t).view.emb (ix2 i j) = ix2 i j from by blk_ext [idx t]]
  exact host23 (m ((c : Thread nD τ).loc main_arg6)) i j

theorem host25 (X : (⟨S1x512, .f32⟩ : BufTy).Contents (Elt Ideal)) (j : Fin 512) :
    shapeCast S1x512 (shapeCast S512 X shapeCasts_S1x512_S512) shapeCasts_S512_S1x512 (ix2 0 j) = X (ix2 0 j) := by
  pointwise
  try blk_ext

theorem blk7 (c : Dev nD) (t : Fin cfg0.N) (j : Fin 512) :
    iblk m c 7 t (ix2 0 j) = m ((c : Thread nD τ).loc main_arg7) (ix2 0 j) := by
  refine (congrFun (ent25 m c) _).trans ?_
  rw [show (win0_7.blk t).view.emb (ix2 0 j) = ix2 0 j from by blk_ext [idx t]]
  exact host25 (m ((c : Thread nD τ).loc main_arg7)) j

theorem host28 (X : (⟨S1x128x2x512, .f32⟩ : BufTy).Contents (Elt Ideal)) (n : Fin 128) (k : Fin 512) :
    shapeCast S128x512 (extractStridedSlice S128x1x512 ![0, 0, 0]
    (shapeCast S128x2x512 X shapeCasts_S1x128x2x512_S128x2x512) slices_S128x2x512_S128x1x512_0_0_0) shapeCasts_S128x1x512_S128x512 (ix2 n k) = X (ix4 0 n 0 k) := by
  pointwise
  try blk_ext

theorem blk8 (c : Dev nD) (t : Fin cfg0.N) (r : Fin 128) (k : Fin 512) (n : Fin 128) (h : n.val = t.val * 128 + r.val) :
    iblk m c 8 t (ix2 r k) = m ((c : Thread nD τ).loc main_arg1) (ix4 0 n 0 k) := by
  have hn := n.isLt
  refine (congrFun (ent28 m c) _).trans ?_
  rw [show (win0_8.blk t).view.emb (ix2 r k) = ix2 n k from by blk_ext [idx t]]
  exact host28 (m ((c : Thread nD τ).loc main_arg1)) n k

theorem host31 (X : (⟨S1x128x2x512, .f32⟩ : BufTy).Contents (Elt Ideal)) (n : Fin 128) (k : Fin 512) :
    shapeCast S128x512 (extractStridedSlice S128x1x512 ![0, 1, 0]
    (shapeCast S128x2x512 X shapeCasts_S1x128x2x512_S128x2x512) slices_S128x2x512_S128x1x512_0_1_0) shapeCasts_S128x1x512_S128x512 (ix2 n k) = X (ix4 0 n 1 k) := by
  pointwise
  try blk_ext

theorem blk9 (c : Dev nD) (t : Fin cfg0.N) (r : Fin 128) (k : Fin 512) (n : Fin 128) (h : n.val = t.val * 128 + r.val) :
    iblk m c 9 t (ix2 r k) = m ((c : Thread nD τ).loc main_arg1) (ix4 0 n 1 k) := by
  have hn := n.isLt
  refine (congrFun (ent31 m c) _).trans ?_
  rw [show (win0_9.blk t).view.emb (ix2 r k) = ix2 n k from by blk_ext [idx t]]
  exact host31 (m ((c : Thread nD τ).loc main_arg1)) n k

end Cert.InSampleIdeal.Result

end
-- ==== Proof.InSampleGroup.lean ====
/- The matrix that joins the lanes of one head, built by the call `InSampleIdeal` from a counter. -/
module

public import proofs.«01_k».proof.Proof.Gen.InSampleIdeal.Value
public import Idealize.ShloMosaic.Lib.Pipeline.ValueKit

@[expose] public section

set_option maxRecDepth 16384

noncomputable section

namespace Cert.InSampleIdeal.Result

open Cert.InSampleIdeal Cert.InSampleIdeal.Gen Idealize.ShloMosaic Idealize.ShloMosaic.TcCoe Idealize.SL.Sem

variable (m : (ℓ : Loc nD τ sig) → Buf (Elt Ideal) ℓ)

/-- The head that each lane of a 256-lane group belongs to, as the host computes it: the lane's number over 64, rounded down. -/
def seg : (⟨S256, .i32⟩ : BufTy).Contents (Elt Ideal) :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The matrix: one where the two lanes belong to one head, zero elsewhere. -/
def group : (⟨S256x256, .bf16⟩ : BufTy).Contents (Elt Ideal) :=
  uitofp (F := Ideal) .bf16 (cmpi .eq
    (broadcastInDim S256x256 ![0, 1] bcast_S256x1_S256x256_0_1 (broadcastInDim S256x1 ![0] bcast_S256_S256x1_0 seg))
    (broadcastInDim S256x256 ![0, 1] bcast_S1x256_S256x256_0_1 (broadcastInDim S1x256 ![1] bcast_S256_S1x256_1 seg)))

theorem ent8 (c : Dev nD) :
    StableHlo.after [hostOps0, hostOps0_1, hostOps0_2].flatten (fun b => m (c, b)) (Proc.tc.devRef main_v8) = group := by
  simp only [hostOps0, hostOps0_1, hostOps0_2, List.flatten_cons, List.flatten_nil, List.append_nil, List.cons_append,
    List.nil_append]
  entry_read
  rfl

theorem seg_at : ∀ a : Fin 256, seg (ix1 a) = BitVec.ofNat 32 (a.val / 64) := by decide +kernel

theorem group_at (a b : Fin 256) : group (ix2 a b) = if a.val / 64 = b.val / 64 then (1 : EReal) else 0 := by
  pointwise [group, seg_at]
  have hc : ∀ p q : Fin 4, IntOp.cmpi CmpIPredicate.eq (BitVec.ofNat 32 p.val) (BitVec.ofNat 32 q.val)
      = if p.val = q.val then 1#1 else 0#1 := by decide +kernel
  have := hc ⟨a.val / 64, by omega⟩ ⟨b.val / 64, by omega⟩
  simp only at this
  rw [this]
  split
  · show (((1#1 : BitVec 1).toNat : ℝ) : EReal) = 1
    simp
  · show (((0#1 : BitVec 1).toNat : ℝ) : EReal) = 0
    simp

theorem blk5 (c : Dev nD) (t : Fin cfg0.N) (a b : Fin 256) (h5 : win0_5.index t = ![0, 0]) :
    iblk m c 5 t (ix2 a b) = if a.val / 64 = b.val / 64 then (1 : EReal) else 0 := by
  rw [← group_at]
  refine (congrFun (ent8 m c) _).trans ?_
  rw [show (win0_5.blk t).view.emb (ix2 a b) = ix2 a b from by blk_ext [h5]]

end Cert.InSampleIdeal.Result

end
-- ==== Proof.InSampleTile.lean ====
/- What one block of `InSampleIdeal` computes, row by row, as the results' rows. -/
module

public import proofs.«01_k».proof.Proof.InSamplePay
public import proofs.«01_k».proof.Proof.InSpec

@[expose] public section

set_option maxRecDepth 16384

noncomputable section

namespace Cert.InSampleIdeal.Tile

open Cert.InSampleIdeal Cert.InSampleIdeal.Gen Idealize.ShloMosaic Cert.Rows Cert.InSampleIdeal.Pay

variable {B T : ℕ} (X : FVec Ideal ⟨3, ![B, T, 1024]⟩ .f32) (gm : FVec Ideal ⟨2, ![1, 1024]⟩ .f32)
  (w : FVec Ideal ⟨3, ![1, 1024, 3072]⟩ .f32) (gq : FVec Ideal ⟨2, ![1, 64]⟩ .f32) (b : Fin B) (s : Fin T)
  (x : FVec Ideal S128x1024 .f32) (g : FVec Ideal S1x1024 .f32) (e : FVec Ideal S256x256 .bf16)
  (v v' : FVec Ideal S1024x512 .bf16) (gv : FVec Ideal S1x512 .f32) (r : Fin 128)

/-- A block of the weights, met by the row's normalised entries, is a part of the row's projection. -/
theorem part_row (hx : ∀ k, x (ix2 r k) = X (ix3 b s k)) (hg : ∀ k, g (ix2 0 k) = gm (ix2 0 k)) (o : ℕ) (ho : o + 512 ≤ 3072)
    (hv : ∀ k (l : Fin 512), v (ix2 k l) = w (ix3 0 k ⟨o + l.val, by omega⟩)) :
    mv (fun k => k0_pay1 (F := Ideal) x g (ix2 r k)) (fun k l => v (ix2 k l)) = partAt X gm w o ho b s := by
  funext j
  simp only [hn_row, hx, hg, hv]
  rfl

theorem q_tile (hx : ∀ k, x (ix2 r k) = X (ix3 b s k)) (hg : ∀ k, g (ix2 0 k) = gm (ix2 0 k))
    (hv : ∀ k (l : Fin 512), v (ix2 k l) = w (ix3 0 k ⟨0 + l.val, by omega⟩))
    (he : ∀ a b, e (ix2 a b) = if a.val / 64 = b.val / 64 then 1 else 0)
    (hq : ∀ j : Fin 512, gv (ix2 0 j) = gq (ix2 0 ⟨j.val % 64, by omega⟩)) (j : Fin 512) :
    k0_pay3 (F := Ideal) x g e v gv (ix2 r j) * qscale = qAt X gm w gq b s j := by
  rw [q_row x g e v gv he (fun d => gq (ix2 0 d)) hq r j]
  simp only [hx, hg, hv]
  rfl

theorem k_tile (hx : ∀ k, x (ix2 r k) = X (ix3 b s k)) (hg : ∀ k, g (ix2 0 k) = gm (ix2 0 k))
    (hv : ∀ k (l : Fin 512), v (ix2 k l) = w (ix3 0 k ⟨512 + l.val, by omega⟩))
    (he : ∀ a b, e (ix2 a b) = if a.val / 64 = b.val / 64 then 1 else 0)
    (hq : ∀ j : Fin 512, gv (ix2 0 j) = gq (ix2 0 ⟨j.val % 64, by omega⟩)) (j : Fin 512) :
    k0_pay6 (F := Ideal) (k0_pay1 x g) (k0_pay2 e) v gv (ix2 r j) = kAt X gm w gq b s j := by
  rw [k_row _ e v gv he (fun d => gq (ix2 0 d)) hq r j, part_row X gm w b s x g v r hx hg 512 (by omega) hv]
  rfl

theorem v_tile (hx : ∀ k, x (ix2 r k) = X (ix3 b s k)) (hg : ∀ k, g (ix2 0 k) = gm (ix2 0 k))
    (hv : ∀ k (l : Fin 512), v (ix2 k l) = w (ix3 0 k ⟨1024 + l.val, by omega⟩)) (j : Fin 512) :
    k0_pay7 (F := Ideal) (k0_pay1 x g) v (ix2 r j) = vAt X gm w b s j := by
  rw [v_row, part_row X gm w b s x g v r hx hg 1024 (by omega) hv]
  rfl

theorem b_tile (hx : ∀ k, x (ix2 r k) = X (ix3 b s k)) (hg : ∀ k, g (ix2 0 k) = gm (ix2 0 k))
    (hv : ∀ k (l : Fin 512), v (ix2 k l) = w (ix3 0 k ⟨1536 + l.val, by omega⟩)) (j : Fin 512) :
    k0_pay8 (F := Ideal) (k0_pay1 x g) v (ix2 r j) = partAt X gm w 1536 (by omega) b s j := by
  rw [b_row, part_row X gm w b s x g v r hx hg 1536 (by omega) hv]

theorem u_tile (hx : ∀ k, x (ix2 r k) = X (ix3 b s k)) (hg : ∀ k, g (ix2 0 k) = gm (ix2 0 k))
    (hv : ∀ k (l : Fin 512), v (ix2 k l) = w (ix3 0 k ⟨2048 + l.val, by omega⟩))
    (hv' : ∀ k (l : Fin 512), v' (ix2 k l) = w (ix3 0 k ⟨2560 + l.val, by omega⟩)) (j : Fin 512) :
    k0_pay9 (F := Ideal) (k0_pay1 x g) v v' (ix2 r j) = uAt X gm w b s j := by
  rw [u_row, part_row X gm w b s x g v r hx hg 2048 (by omega) hv, part_row X gm w b s x g v' r hx hg 2560 (by omega) hv']
  rfl

theorem c_tile (bb uu : FVec Ideal S128x512 .f32) (cv : FVec Ideal S3x512 .f32) (p2 p1 : FVec Ideal S128x512 .f32)
    (cn : FVec Ideal S1x512 .f32) (cw : FVec Ideal ⟨3, ![1, 3, 512]⟩ .f32) (gc : FVec Ideal ⟨2, ![1, 512]⟩ .f32)
    (u2 u1 : Fin 512 → EReal) (hb : ∀ k, bb (ix2 r k) = partAt X gm w 1536 (by omega) b s k)
    (hu : ∀ k, uu (ix2 r k) = uAt X gm w b s k) (h2 : ∀ k, p2 (ix2 r k) = u2 k) (h1 : ∀ k, p1 (ix2 r k) = u1 k)
    (hc : ∀ i k, cv (ix2 i k) = cw (ix3 0 i k)) (hn : ∀ k, cn (ix2 0 k) = gc (ix2 0 k)) (j : Fin 512) :
    k0_pay10 (F := Ideal) bb uu cv p2 p1 cn (ix2 r j) = cAt X gm w cw gc u2 u1 b s j := by
  rw [c_row]
  simp only [hb, hu, h2, h1, hc, hn]
  rfl

end Cert.InSampleIdeal.Tile

end
-- ==== Proof.InSampleResult.lean ====
/- The result arrays of the call `InSampleIdeal` after a run. -/
module

public import proofs.«01_k».proof.Proof.InSampleBlk
public import proofs.«01_k».proof.Proof.InSampleGroup
public import proofs.«01_k».proof.Proof.InSampleTile

@[expose] public section

set_option maxRecDepth 16384

noncomputable section

namespace Cert.InSampleIdeal.Result

open Cert.InSampleIdeal Cert.InSampleIdeal.Gen Idealize.ShloMosaic Idealize.ShloMosaic.TcCoe Idealize.SL.Sem Cert.Rows

/-- A load of the whole of a block is the block. A load of 512 columns of the weights' block is those columns. -/
theorem ld_x (x : Vec Ideal S128x1024 .f32) (r : Fin 128) (k : Fin 1024) : View.ld x r0_0 (ix2 r k) = x (ix2 r k) := by pointwise [r0_0]

theorem ld_g (x : Vec Ideal S1x1024 .f32) (k : Fin 1024) : View.ld x r0_1 (ix2 0 k) = x (ix2 0 k) := by pointwise [r0_1]

section

variable (x : Vec Ideal S1024x3072 .bf16) (k : Fin 1024) (l : Fin 512)

theorem ld_w0 : View.ld x r0_3 (ix2 k l) = x (ix2 k ⟨0 + l.val, by omega⟩) := by pointwise [r0_3]; blk_ext

theorem ld_w1 : View.ld x r0_5 (ix2 k l) = x (ix2 k ⟨512 + l.val, by omega⟩) := by pointwise [r0_5]

theorem ld_w2 : View.ld x r0_6 (ix2 k l) = x (ix2 k ⟨1024 + l.val, by omega⟩) := by pointwise [r0_6]

theorem ld_w3 : View.ld x r0_7 (ix2 k l) = x (ix2 k ⟨1536 + l.val, by omega⟩) := by pointwise [r0_7]

theorem ld_w4 : View.ld x r0_8 (ix2 k l) = x (ix2 k ⟨2048 + l.val, by omega⟩) := by pointwise [r0_8]

theorem ld_w5 : View.ld x r0_9 (ix2 k l) = x (ix2 k ⟨2560 + l.val, by omega⟩) := by pointwise [r0_9]

end

/-- The scaled queries as the body stores them. -/
theorem scaled (a : FVec Ideal S128x512 .f32) (r : Fin 128) (j : Fin 512) :
    k0_pay5 (F := Ideal) a (k0_pay4 (F := Ideal)) (ix2 r j) = a (ix2 r j) * qscale := by pointwise [k0_pay5, k0_pay4, qscale]

section

variable (x0 : Vec Ideal S128x1024 .f32) (x1 : Vec Ideal S1x1024 .f32) (x2 : Vec Ideal S1024x3072 .bf16) (x3 x4 : Vec Ideal S1x512 .f32)
  (x5 : Vec Ideal S256x256 .bf16) (x6 : Vec Ideal S3x512 .f32) (x7 : Vec Ideal S1x512 .f32) (x8 x9 : Vec Ideal S128x512 .f32)
  (X : FVec Ideal S128x1x1024 .f32) (gm : FVec Ideal S1x1024 .f32) (w : FVec Ideal S1x1024x3072 .f32) (r n : Fin 128)

/-- The normalised rows and the convolution's rows, where the body names them once and uses them again. -/
theorem normed : k0_pay11 (F := Ideal) x0 x1 x2 x3 x4 x5 x6 x7 x8 x9 = k0_pay1 (F := Ideal) x0 x1 := by
  have h0 : View.ld x0 r0_0 = x0 := by
    funext i
    idx_vars i
    exact ld_x x0 i0 i1
  have h1 : View.ld x1 r0_1 = x1 := by
    funext i
    idx_vars i
    obtain rfl : i0 = 0 := Subsingleton.elim _ _
    exact ld_g x1 i1
  rw [k0_pay11, h0, h1]

theorem convIn : k0_pay12 (F := Ideal) x0 x1 x2 x3 x4 x5 x6 x7 x8 x9
    = k0_pay9 (F := Ideal) (k0_pay1 (F := Ideal) x0 x1) (View.ld x2 r0_8) (View.ld x2 r0_9) := by rw [k0_pay12, normed]

/-- What the body leaves in each result's block, from what its input blocks hold. -/
theorem q_out (gq : FVec Ideal S1x64 .f32) (hq : ∀ j : Fin 512, x3 (ix2 0 j) = gq (ix2 0 ⟨j.val % 64, by omega⟩)) (j : Fin 512)
    (hx : ∀ k, x0 (ix2 r k) = X (ix3 n 0 k)) (hg : ∀ k, x1 (ix2 0 k) = gm (ix2 0 k)) (hw : ∀ k l, x2 (ix2 k l) = w (ix3 0 k l))
    (he : ∀ a b, x5 (ix2 a b) = if a.val / 64 = b.val / 64 then (1 : EReal) else 0) :
    out0_10 (F := Ideal) x0 x1 x2 x3 x4 x5 x6 x7 x8 x9 (ix2 r j) = qAt X gm w gq n 0 j := by
  frame_out
  refine (scaled _ r j).trans ?_
  exact Tile.q_tile X gm w gq n 0 _ _ _ _ _ r hx hg
    (fun k l => (ld_w0 x2 k l).trans (hw k _)) he hq j

theorem k_out (gq : FVec Ideal S1x64 .f32) (hq : ∀ j : Fin 512, x4 (ix2 0 j) = gq (ix2 0 ⟨j.val % 64, by omega⟩)) (j : Fin 512)
    (hx : ∀ k, x0 (ix2 r k) = X (ix3 n 0 k)) (hg : ∀ k, x1 (ix2 0 k) = gm (ix2 0 k)) (hw : ∀ k l, x2 (ix2 k l) = w (ix3 0 k l))
    (he : ∀ a b, x5 (ix2 a b) = if a.val / 64 = b.val / 64 then (1 : EReal) else 0) :
    out0_11 (F := Ideal) x0 x1 x2 x3 x4 x5 x6 x7 x8 x9 (ix2 r j) = kAt X gm w gq n 0 j := by
  frame_out
  rw [normed]
  exact Tile.k_tile X gm w gq n 0 _ _ _ _ _ r hx hg
    (fun k l => (ld_w1 x2 k l).trans (hw k _)) he hq j

theorem v_out (j : Fin 512)
    (hx : ∀ k, x0 (ix2 r k) = X (ix3 n 0 k)) (hg : ∀ k, x1 (ix2 0 k) = gm (ix2 0 k)) (hw : ∀ k l, x2 (ix2 k l) = w (ix3 0 k l)) :
    out0_12 (F := Ideal) x0 x1 x2 x3 x4 x5 x6 x7 x8 x9 (ix2 r j) = vAt X gm w n 0 j := by
  frame_out
  rw [normed]
  exact Tile.v_tile X gm w n 0 _ _ _ r hx hg
    (fun k l => (ld_w2 x2 k l).trans (hw k _)) j

theorem u_out (j : Fin 512)
    (hx : ∀ k, x0 (ix2 r k) = X (ix3 n 0 k)) (hg : ∀ k, x1 (ix2 0 k) = gm (ix2 0 k)) (hw : ∀ k l, x2 (ix2 k l) = w (ix3 0 k l)) :
    out0_14 (F := Ideal) x0 x1 x2 x3 x4 x5 x6 x7 x8 x9 (ix2 r j) = uAt X gm w n 0 j := by
  frame_out
  rw [convIn]
  exact Tile.u_tile X gm w n 0 _ _ _ _ r hx hg
    (fun k l => (ld_w4 x2 k l).trans (hw k _)) (fun k l => (ld_w5 x2 k l).trans (hw k _)) j

theorem c_out (cw : FVec Ideal S1x3x512 .f32) (gc : FVec Ideal S1x512 .f32) (u2 u1 : Fin 512 → EReal) (j : Fin 512)
    (hx : ∀ k, x0 (ix2 r k) = X (ix3 n 0 k)) (hg : ∀ k, x1 (ix2 0 k) = gm (ix2 0 k)) (hw : ∀ k l, x2 (ix2 k l) = w (ix3 0 k l))
    (hc : ∀ i k, x6 (ix2 i k) = cw (ix3 0 i k)) (hn : ∀ k, x7 (ix2 0 k) = gc (ix2 0 k)) (h2 : ∀ k, x8 (ix2 r k) = u2 k)
    (h1 : ∀ k, x9 (ix2 r k) = u1 k) :
    out0_13 (F := Ideal) x0 x1 x2 x3 x4 x5 x6 x7 x8 x9 (ix2 r j) = cAt X gm w cw gc u2 u1 n 0 j := by
  frame_out
  rw [normed, convIn]
  exact Tile.c_tile X gm w n 0 r _ _ _ _ _ _ cw gc u2 u1
    (fun k => Tile.b_tile X gm w n 0 _ _ _ r hx hg
      (fun k l => (ld_w3 x2 k l).trans (hw k _)) k)
    (fun k => Tile.u_tile X gm w n 0 _ _ _ _ r hx hg
      (fun k l => (ld_w4 x2 k l).trans (hw k _)) (fun k l => (ld_w5 x2 k l).trans (hw k _)) k)
    h2 h1
    hc hn j

end

variable (m : (ℓ : Loc nD τ sig) → Buf (Elt Ideal) ℓ)

/-- The results as functions of the argument arrays. -/
abbrev GQ (c : Dev nD) : FVec Ideal S128x512 .f32 := fun i =>
  qAt (m ((c : Thread nD τ).loc main_arg0)) (m ((c : Thread nD τ).loc main_arg2)) (m ((c : Thread nD τ).loc main_arg3))
    (m ((c : Thread nD τ).loc main_arg4)) (i 0) 0 (i 1)

abbrev GK (c : Dev nD) : FVec Ideal S128x512 .f32 := fun i =>
  kAt (m ((c : Thread nD τ).loc main_arg0)) (m ((c : Thread nD τ).loc main_arg2)) (m ((c : Thread nD τ).loc main_arg3))
    (m ((c : Thread nD τ).loc main_arg5)) (i 0) 0 (i 1)

abbrev GV (c : Dev nD) : FVec Ideal S128x512 .f32 := fun i =>
  vAt (m ((c : Thread nD τ).loc main_arg0)) (m ((c : Thread nD τ).loc main_arg2)) (m ((c : Thread nD τ).loc main_arg3)) (i 0) 0 (i 1)

abbrev st (c : Dev nD) : FVec Ideal S1x128x2x512 .f32 := m ((c : Thread nD τ).loc main_arg1)

abbrev GC (c : Dev nD) : FVec Ideal S128x512 .bf16 := fun i =>
  cAt (m ((c : Thread nD τ).loc main_arg0)) (m ((c : Thread nD τ).loc main_arg2)) (m ((c : Thread nD τ).loc main_arg3))
    (m ((c : Thread nD τ).loc main_arg6)) (m ((c : Thread nD τ).loc main_arg7)) (fun k => st m c (ix4 0 (i 0) 0 k))
    (fun k => st m c (ix4 0 (i 0) 1 k)) (i 0) 0 (i 1)

abbrev GU (c : Dev nD) : FVec Ideal S128x512 .f32 := fun i =>
  uAt (m ((c : Thread nD τ).loc main_arg0)) (m ((c : Thread nD τ).loc main_arg2)) (m ((c : Thread nD τ).loc main_arg3)) (i 0) 0 (i 1)

/-- The group matrix's block. -/
theorem ones (c : Dev nD) (t : Fin cfg0.N) (a b : Fin 256) : iblk m c 5 t (ix2 a b) = if a.val / 64 = b.val / 64 then (1 : EReal) else 0 :=
  blk5 m c t a b (idx t).1.2.2.2.2.2.1

/-- Each result array after the run: the blocks written back tile it. -/
theorem final10 (c : Dev nD) : (dats m 0 c).arrAt 10 cfg0.N = GQ m c := by
  refine (dats m 0 c).arrAt_eq_of_covers 10 _ (by decide +kernel) fun t _ y => ?_
  blk_simp
  rw [after0_10]
  idx_vars y
  have h0 : (((View.whole main_v32_0).slice (win0_10.rect t)).emb (ix2 y0 y1) 0).val = t.val * 128 + y0.val := by blk_simp [idx t]
  have h1 : y1 = ((View.whole main_v32_0).slice (win0_10.rect t)).emb (ix2 y0 y1) 1 := by apply Fin.ext; blk_simp [idx t]
  refine (q_out _ _ _ _ _ _ _ _ _ _ (m ((c : Thread nD τ).loc main_arg0)) (m ((c : Thread nD τ).loc main_arg2))
    (m ((c : Thread nD τ).loc main_arg3)) y0 _ (m ((c : Thread nD τ).loc main_arg4)) (fun j => blk3 m c t j) y1 (fun k => blk0 m c t y0 k _ h0) (fun k => blk1 m c t k)
    (fun k l => blk2 m c t k l) (ones m c t)).trans ?_
  exact congrArg (fun j => GQ m c (ix2 _ j)) h1

theorem final11 (c : Dev nD) : (dats m 0 c).arrAt 11 cfg0.N = GK m c := by
  refine (dats m 0 c).arrAt_eq_of_covers 11 _ (by decide +kernel) fun t _ y => ?_
  blk_simp
  rw [after0_11]
  idx_vars y
  have h0 : (((View.whole main_v32_1).slice (win0_11.rect t)).emb (ix2 y0 y1) 0).val = t.val * 128 + y0.val := by blk_simp [idx t]
  have h1 : y1 = ((View.whole main_v32_1).slice (win0_11.rect t)).emb (ix2 y0 y1) 1 := by apply Fin.ext; blk_simp [idx t]
  refine (k_out _ _ _ _ _ _ _ _ _ _ (m ((c : Thread nD τ).loc main_arg0)) (m ((c : Thread nD τ).loc main_arg2))
    (m ((c : Thread nD τ).loc main_arg3)) y0 _ (m ((c : Thread nD τ).loc main_arg5)) (fun j => blk4 m c t j) y1 (fun k => blk0 m c t y0 k _ h0) (fun k => blk1 m c t k)
    (fun k l => blk2 m c t k l) (ones m c t)).trans ?_
  exact congrArg (fun j => GK m c (ix2 _ j)) h1

theorem final12 (c : Dev nD) : (dats m 0 c).arrAt 12 cfg0.N = GV m c := by
  refine (dats m 0 c).arrAt_eq_of_covers 12 _ (by decide +kernel) fun t _ y => ?_
  blk_simp
  rw [after0_12]
  idx_vars y
  have h0 : (((View.whole main_v32_2).slice (win0_12.rect t)).emb (ix2 y0 y1) 0).val = t.val * 128 + y0.val := by blk_simp [idx t]
  have h1 : y1 = ((View.whole main_v32_2).slice (win0_12.rect t)).emb (ix2 y0 y1) 1 := by apply Fin.ext; blk_simp [idx t]
  refine (v_out _ _ _ _ _ _ _ _ _ _ (m ((c : Thread nD τ).loc main_arg0)) (m ((c : Thread nD τ).loc main_arg2))
    (m ((c : Thread nD τ).loc main_arg3)) y0 _  y1 (fun k => blk0 m c t y0 k _ h0) (fun k => blk1 m c t k)
    (fun k l => blk2 m c t k l)).trans ?_
  exact congrArg (fun j => GV m c (ix2 _ j)) h1

theorem final13 (c : Dev nD) : (dats m 0 c).arrAt 13 cfg0.N = GC m c := by
  refine (dats m 0 c).arrAt_eq_of_covers 13 _ (by decide +kernel) fun t _ y => ?_
  blk_simp
  rw [after0_13]
  idx_vars y
  have h0 : (((View.whole main_v32_3).slice (win0_13.rect t)).emb (ix2 y0 y1) 0).val = t.val * 128 + y0.val := by blk_simp [idx t]
  have h1 : y1 = ((View.whole main_v32_3).slice (win0_13.rect t)).emb (ix2 y0 y1) 1 := by apply Fin.ext; blk_simp [idx t]
  refine (c_out _ _ _ _ _ _ _ _ _ _ (m ((c : Thread nD τ).loc main_arg0)) (m ((c : Thread nD τ).loc main_arg2))
    (m ((c : Thread nD τ).loc main_arg3)) y0 _ (m ((c : Thread nD τ).loc main_arg6)) (m ((c : Thread nD τ).loc main_arg7)) _ _ y1 (fun k => blk0 m c t y0 k _ h0) (fun k => blk1 m c t k)
    (fun k l => blk2 m c t k l) (fun i k => blk6 m c t i k) (fun k => blk7 m c t k)
    (fun k => blk8 m c t y0 k _ h0) (fun k => blk9 m c t y0 k _ h0)).trans ?_
  exact congrArg (fun j => GC m c (ix2 _ j)) h1

theorem final14 (c : Dev nD) : (dats m 0 c).arrAt 14 cfg0.N = GU m c := by
  refine (dats m 0 c).arrAt_eq_of_covers 14 _ (by decide +kernel) fun t _ y => ?_
  blk_simp
  rw [after0_14]
  idx_vars y
  have h0 : (((View.whole main_v32_4).slice (win0_14.rect t)).emb (ix2 y0 y1) 0).val = t.val * 128 + y0.val := by blk_simp [idx t]
  have h1 : y1 = ((View.whole main_v32_4).slice (win0_14.rect t)).emb (ix2 y0 y1) 1 := by apply Fin.ext; blk_simp [idx t]
  refine (u_out _ _ _ _ _ _ _ _ _ _ (m ((c : Thread nD τ).loc main_arg0)) (m ((c : Thread nD τ).loc main_arg2))
    (m ((c : Thread nD τ).loc main_arg3)) y0 _  y1 (fun k => blk0 m c t y0 k _ h0) (fun k => blk1 m c t k)
    (fun k l => blk2 m c t k l)).trans ?_
  exact congrArg (fun j => GU m c (ix2 _ j)) h1

end Cert.InSampleIdeal.Result

end
-- ==== Proof.InSampleRead.lean ====
/- The stages of the reference `RefInSampleIdeal`, row by row, as the same functions of the arguments. -/
module

public import proofs.«01_k».proof.Proof.Gen.RefInSampleIdeal.Read
public import proofs.«01_k».proof.Proof.InSpec

@[expose] public section

set_option maxRecDepth 16384

noncomputable section

namespace Cert.RefInSampleIdeal.Rows

open Cert.RefInSampleIdeal Cert.RefInSampleIdeal.Gen Cert.RefInSampleIdeal.Read Idealize.ShloMosaic Cert.Rows

variable (X : FVec Ideal S128x1x1024 .f32) (st : FVec Ideal S1x128x2x512 .f32) (gm : FVec Ideal S1x1024 .f32) (w : FVec Ideal S1x1024x3072 .f32)
  (gq gk : FVec Ideal S1x64 .f32) (cw : FVec Ideal S1x3x512 .f32) (gc : FVec Ideal S1x512 .f32)

/-- The normalised row. -/
theorem hn_row (b : Fin 128) (s : Fin 1) (k : Fin 1024) :
    val_main_v13 (F := Ideal) X gm (ix3 b s k) = nrm len1024 (fun a => X (ix3 b s a)) (fun a => gm (ix2 0 a)) k := by
  obtain rfl : s = 0 := Subsingleton.elim _ _
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    nrm, rinv, eps, len1024]

/-- The projection. -/
theorem proj_row (b : Fin 128) (s : Fin 1) (l : Fin 3072) :
    val_main_v17 (F := Ideal) X gm w (ix3 b s l)
      = ∑ k, nrm len1024 (fun a => X (ix3 b s a)) (fun a => gm (ix2 0 a)) k * w (ix3 0 k l) := by
  pointwise [val_main_v17, hn_row, val_main_v14]

/-- Its six parts. -/
theorem part0 (b : Fin 128) (s : Fin 1) (j : Fin 512) :
    val_main_v18 (F := Ideal) X gm w (ix3 b s j) = partAt X gm w 0 (by omega) b s j := by
  obtain rfl : s = 0 := Subsingleton.elim _ _
  pointwise [val_main_v18, proj_row, partAt, part, mv]

theorem part1 (b : Fin 128) (s : Fin 1) (j : Fin 512) :
    val_main_v19 (F := Ideal) X gm w (ix3 b s j) = partAt X gm w 512 (by omega) b s j := by
  obtain rfl : s = 0 := Subsingleton.elim _ _
  pointwise [val_main_v19, proj_row, partAt, part, mv]

theorem part2 (b : Fin 128) (s : Fin 1) (j : Fin 512) :
    val_main_v20 (F := Ideal) X gm w (ix3 b s j) = vAt X gm w b s j := by
  obtain rfl : s = 0 := Subsingleton.elim _ _
  pointwise [val_main_v20, proj_row, vAt, partAt, part, mv]

theorem part3 (b : Fin 128) (s : Fin 1) (j : Fin 512) :
    val_main_v21 (F := Ideal) X gm w (ix3 b s j) = partAt X gm w 1536 (by omega) b s j := by
  obtain rfl : s = 0 := Subsingleton.elim _ _
  pointwise [val_main_v21, proj_row, partAt, part, mv]

theorem u_row (b : Fin 128) (s : Fin 1) (j : Fin 512) :
    val_main_v53 (F := Ideal) X gm w (ix3 b s j) = uAt X gm w b s j := by
  obtain rfl : s = 0 := Subsingleton.elim _ _
  pointwise [val_main_v53, val_main_v22, val_main_v23, proj_row, uAt, partAt, part, mv]

/-- The normalised heads of the queries and the keys. -/
theorem q_heads (b : Fin 128) (s : Fin 1) (h : Fin 8) (d : Fin 64) :
    val_main_v37 (F := Ideal) X gm w gq (ix4 b s h d)
      = heads (partAt X gm w 0 (by omega) b s) (fun d => gq (ix2 0 d)) ⟨h.val * 64 + d.val, by omega⟩ := by
  rw [heads_at]
  obtain rfl : s = 0 := Subsingleton.elim _ _
  pointwise [val_main_v37, val_main_v36, val_main_v35, val_main_v34, val_main_v33, val_main_v32, val_main_v31, val_main_v30,
    val_main_v29, val_main_v28, val_main_v27, val_main_v26, val_main_v25, val_main_v24, val_main_v15, val_main_cst_2,
    val_main_cst_3, val_main_cst_4, part0, eps, len64]

theorem k_heads (b : Fin 128) (s : Fin 1) (h : Fin 8) (d : Fin 64) :
    val_main_v51 (F := Ideal) X gm w gk (ix4 b s h d) = kAt X gm w gk b s ⟨h.val * 64 + d.val, by omega⟩ := by
  unfold kAt
  rw [heads_at]
  obtain rfl : s = 0 := Subsingleton.elim _ _
  pointwise [val_main_v51, val_main_v50, val_main_v49, val_main_v48, val_main_v47, val_main_v46, val_main_v45, val_main_v44,
    val_main_v43, val_main_v42, val_main_v41, val_main_v40, val_main_v39, val_main_v38, val_main_v16, val_main_cst_5,
    val_main_cst_6, val_main_cst_7, part1, eps, len64]

/-- The gated and normalised convolution. -/
theorem c_row (b : Fin 128) (s : Fin 1) (j : Fin 512) :
    val_main_v92 (F := Ideal) X st gm w cw gc (ix3 b s j)
      = cAt X gm w cw gc (fun k => st (ix4 0 b 0 k)) (fun k => st (ix4 0 b 1 k)) b s j := by
  have hy : ∀ k : Fin 512, val_main_v76 (F := Ideal) X st gm w cw (ix3 b s k)
      = conv (fun i k => cw (ix3 0 i k)) (fun k => st (ix4 0 b 0 k)) (fun k => st (ix4 0 b 1 k)) (uAt X gm w b s) k := by
    intro k
    obtain rfl : s = 0 := Subsingleton.elim _ _
    pointwise [val_main_v76, val_main_v75, val_main_v74, val_main_v73, val_main_v72, val_main_v71, val_main_v70, val_main_v69,
      val_main_v68, val_main_v67, val_main_v66, val_main_v65, val_main_v64, val_main_v63, val_main_v62, val_main_v61,
      val_main_v60, val_main_v59, val_main_v58, val_main_v57, val_main_v56, val_main_v55, val_main_v54, u_row, conv, uBack]

  have hr : val_main_v92 (F := Ideal) X st gm w cw gc (ix3 b s j)
      = nrm len512 (fun k => partAt X gm w 1536 (by omega) b s k * val_main_v76 (F := Ideal) X st gm w cw (ix3 b s k))
          (fun k => gc (ix2 0 k)) j := by
    obtain rfl : s = 0 := Subsingleton.elim _ _
    pointwise [val_main_v92, val_main_v91, val_main_v90, val_main_v89, val_main_v88, val_main_v87, val_main_v86, val_main_v85,
      val_main_v84, val_main_v83, val_main_v82, val_main_v81, val_main_v80, val_main_v79, val_main_v78, val_main_cst_8, val_main_cst_9, val_main_cst_10,
      part3, nrm, rinv, eps, len512]
  rw [hr]
  simp only [hy]
  rfl

/-- The results. -/
theorem q_res (n : Fin 128) (j : Fin 512) : val_main_v95 (F := Ideal) X gm w gq (ix2 n j) = qAt X gm w gq n 0 j := by
  have h : val_main_v95 (F := Ideal) X gm w gq (ix2 n j)
      = val_main_v37 (F := Ideal) X gm w gq (ix4 n 0 ⟨j.val / 64, by omega⟩ ⟨j.val % 64, by omega⟩) * qscale := by
    pointwise [val_main_v95, val_main_v94, val_main_v93, val_main_cst_11, qscale]
  rw [h, q_heads]
  unfold qAt
  congr 2
  exact Fin.ext (by simp only; omega)

theorem k_res (n : Fin 128) (j : Fin 512) : val_main_v96 (F := Ideal) X gm w gk (ix2 n j) = kAt X gm w gk n 0 j := by
  have h : val_main_v96 (F := Ideal) X gm w gk (ix2 n j)
      = val_main_v51 (F := Ideal) X gm w gk (ix4 n 0 ⟨j.val / 64, by omega⟩ ⟨j.val % 64, by omega⟩) := by
    pointwise [val_main_v96]
  rw [h, k_heads]
  congr 1
  exact Fin.ext (by simp only; omega)

theorem v_res (n : Fin 128) (j : Fin 512) : val_main_v97 (F := Ideal) X gm w (ix2 n j) = vAt X gm w n 0 j := by
  rw [← part2]
  pointwise [val_main_v97, val_main_v52]

theorem c_res (n : Fin 128) (j : Fin 512) : val_main_v99 (F := Ideal) X st gm w cw gc (ix2 n j)
    = cAt X gm w cw gc (fun k => st (ix4 0 n 0 k)) (fun k => st (ix4 0 n 1 k)) n 0 j := by
  rw [← c_row]
  pointwise [val_main_v99, val_main_v98]

theorem u_res (n : Fin 128) (j : Fin 512) : val_main_v100 (F := Ideal) X gm w (ix2 n j) = uAt X gm w n 0 j := by
  rw [← u_row]
  pointwise [val_main_v100]

end Cert.RefInSampleIdeal.Rows

end
-- ==== Proof.InSampleClaim.lean ====
/- The value claim of the call `InSampleIdeal`: its result arrays are those of the written-out mathematics `RefInSampleIdeal`. -/
module

public import proofs.«01_k».proof.Defs
public import proofs.«01_k».proof.Proof.Gen.InSampleIdeal.Value
public import proofs.«01_k».proof.Proof.Gen.InSampleIdeal.Frame
public import proofs.«01_k».proof.Proof.Gen.RefInSampleIdeal.Run
public import proofs.«01_k».proof.Proof.Gen.RefInSampleIdeal.Read
public import proofs.«01_k».proof.Proof.InSampleResult
public import proofs.«01_k».proof.Proof.InSampleRead
public import Idealize.ShloMosaic.Adequacy
public import Idealize.ShloMosaic.Lib.Claim
public import Idealize.ShloMosaic.Init

@[expose] public section

noncomputable section

namespace Cert.RefInSampleIdeal.Rows

open Cert.RefInSampleIdeal Cert.RefInSampleIdeal.Read Idealize.ShloMosaic Cert.Rows

section

variable {X X' : FVec Ideal S128x1x1024 .f32} {st st' : FVec Ideal S1x128x2x512 .f32} {gm gm' : FVec Ideal S1x1024 .f32} {w w' : FVec Ideal S1x1024x3072 .f32} {gq gq' : FVec Ideal S1x64 .f32} {gk gk' : FVec Ideal S1x64 .f32} {cw cw' : FVec Ideal S1x3x512 .f32} {gc gc' : FVec Ideal S1x512 .f32}

/- Each result array as one function of its index, over arrays equal to those the kernel was given. -/
theorem q_all (h0 : X' = X) (h2 : gm' = gm) (h3 : w' = w) (h4 : gq' = gq) : val_main_v95 (F := Ideal) X' gm' w' gq'
    = (fun i => qAt X gm w gq (i 0) 0 (i 1) : FVec Ideal S128x512 .f32) := by
  subst h0 h2 h3 h4
  funext i
  idx_vars i
  exact q_res _ _ _ _ i0 i1

theorem k_all (h0 : X' = X) (h2 : gm' = gm) (h3 : w' = w) (h5 : gk' = gk) : val_main_v96 (F := Ideal) X' gm' w' gk'
    = (fun i => kAt X gm w gk (i 0) 0 (i 1) : FVec Ideal S128x512 .f32) := by
  subst h0 h2 h3 h5
  funext i
  idx_vars i
  exact k_res _ _ _ _ i0 i1

theorem v_all (h0 : X' = X) (h2 : gm' = gm) (h3 : w' = w) : val_main_v97 (F := Ideal) X' gm' w'
    = (fun i => vAt X gm w (i 0) 0 (i 1) : FVec Ideal S128x512 .f32) := by
  subst h0 h2 h3
  funext i
  idx_vars i
  exact v_res _ _ _ i0 i1

theorem c_all (h0 : X' = X) (h1 : st' = st) (h2 : gm' = gm) (h3 : w' = w) (h6 : cw' = cw) (h7 : gc' = gc) : val_main_v99 (F := Ideal) X' st' gm' w' cw' gc'
    = (fun i => cAt X gm w cw gc (fun k => st (ix4 0 (i 0) 0 k)) (fun k => st (ix4 0 (i 0) 1 k)) (i 0) 0 (i 1) : FVec Ideal S128x512 .bf16) := by
  subst h0 h1 h2 h3 h6 h7
  funext i
  idx_vars i
  exact c_res _ _ _ _ _ _ i0 i1

theorem u_all (h0 : X' = X) (h2 : gm' = gm) (h3 : w' = w) : val_main_v100 (F := Ideal) X' gm' w'
    = (fun i => uAt X gm w (i 0) 0 (i 1) : FVec Ideal S128x512 .f32) := by
  subst h0 h2 h3
  funext i
  idx_vars i
  exact u_res _ _ _ i0 i1

end

end Cert.RefInSampleIdeal.Rows

namespace Cert.Proof

open Idealize.ShloMosaic Idealize.SL.Sem

theorem frame_RefInSampleIdeal : Cert.quiescent_RefInSampleIdeal := fun m ρ _ =>
  (θ_run _ _ _).mono (fun r h => ⟨fun c => (h c).2.2.2.2.2,
      sem_eq_zero_of_no_sems (by decide) r.2⟩) (Cert.RefInSampleIdeal.Value.run m ρ)

theorem value_InSampleIdeal : Cert.algebraic_InSampleIdeal_RefInSampleIdeal := by
  intro m ρ m' ρ' _ hag
  refine ⟨fun c => Cert.InSampleIdeal.Result.GQ m c, fun c => Cert.InSampleIdeal.Result.GK m c, fun c => Cert.InSampleIdeal.Result.GV m c, fun c => Cert.InSampleIdeal.Result.GC m c, fun c => Cert.InSampleIdeal.Result.GU m c, ?_, ?_⟩
  · refine (θ_run _ _ _).mono (fun r h c => ?_) (Cert.InSampleIdeal.Value.run_blocks m ρ)
    have h := h c
    exact ⟨(h.1).trans (Cert.InSampleIdeal.Result.final10 m c), (h.2.1).trans (Cert.InSampleIdeal.Result.final11 m c), (h.2.2.1).trans (Cert.InSampleIdeal.Result.final12 m c), (h.2.2.2.1).trans (Cert.InSampleIdeal.Result.final13 m c), (h.2.2.2.2.1).trans (Cert.InSampleIdeal.Result.final14 m c), h.2.2.2.2.2⟩
  · refine (θ_run _ _ _).mono (fun r h c => ?_) (Cert.RefInSampleIdeal.Value.run m' ρ')
    have h := h c
    have a := hag c
    exact ⟨(h.1).trans ((Cert.RefInSampleIdeal.Read.val_main_v95_eq _ _ _ _).trans (Cert.RefInSampleIdeal.Rows.q_all (a.1) (a.2.2.1) (a.2.2.2.1) (a.2.2.2.2.1))),
      (h.2.1).trans ((Cert.RefInSampleIdeal.Read.val_main_v96_eq _ _ _ _).trans (Cert.RefInSampleIdeal.Rows.k_all (a.1) (a.2.2.1) (a.2.2.2.1) (a.2.2.2.2.2.1))),
      (h.2.2.1).trans ((Cert.RefInSampleIdeal.Read.val_main_v97_eq _ _ _).trans (Cert.RefInSampleIdeal.Rows.v_all (a.1) (a.2.2.1) (a.2.2.2.1))),
      (h.2.2.2.1).trans ((Cert.RefInSampleIdeal.Read.val_main_v99_eq m' c).trans (Cert.RefInSampleIdeal.Rows.c_all (a.1) (a.2.1) (a.2.2.1) (a.2.2.2.1) (a.2.2.2.2.2.2.1) (a.2.2.2.2.2.2.2))),
      (h.2.2.2.2.1).trans ((Cert.RefInSampleIdeal.Read.val_main_v100_eq _ _ _).trans (Cert.RefInSampleIdeal.Rows.u_all (a.1) (a.2.2.1) (a.2.2.2.1))),
      h.2.2.2.2.2⟩

end Cert.Proof

end
-- ==== Proof.PostPay.lean ====
/- What the body of the call `PostIdeal` stores, read one row at a time: each payload at row `r` is a function of row `r`
   of the blocks and of the weights. -/
module

public import proofs.«01_k».proof.Proof.Gen.PostIdeal.Skeleton
public import proofs.«01_k».proof.Proof.Rows

@[expose] public section

set_option maxRecDepth 16384

noncomputable section

namespace Cert.PostIdeal.Pay

open Cert.PostIdeal Cert.PostIdeal.Gen Idealize.ShloMosaic Cert.Rows

/-- The residual after the output projection. -/
theorem mixed_row (a : FVec Ideal S256x512 .f32) (gA : FVec Ideal S1x512 .f32) (x : FVec Ideal S256x1024 .f32)
    (wT : FVec Ideal S512x1024 .bf16) (c : FVec Ideal S256x512 .bf16) (wB : FVec Ideal S512x1024 .bf16) (r : Fin 256) (j : Fin 1024) :
    k0_pay2 (F := Ideal) a gA x wT c wB (ix2 r j)
      = mixed (fun k => x (ix2 r k)) (fun k => a (ix2 r k)) (fun k => c (ix2 r k)) (fun k => gA (ix2 0 k))
          (fun k l => wT (ix2 k l)) (fun k l => wB (ix2 k l)) j := by
  pointwise [k0_pay2, mixed, mv, nrm, rinv, eps, len512]

/-- The reciprocal root mean square of that residual. -/
theorem mixed_inv (a : FVec Ideal S256x512 .f32) (gA : FVec Ideal S1x512 .f32) (x : FVec Ideal S256x1024 .f32)
    (wT : FVec Ideal S512x1024 .bf16) (c : FVec Ideal S256x512 .bf16) (wB : FVec Ideal S512x1024 .bf16) (r : Fin 256) :
    k0_pay4 (F := Ideal) a gA x wT c wB (ix2 r 0)
      = rinv len1024 (mixed (fun k => x (ix2 r k)) (fun k => a (ix2 r k)) (fun k => c (ix2 r k)) (fun k => gA (ix2 0 k))
          (fun k l => wT (ix2 k l)) (fun k l => wB (ix2 k l))) := by
  pointwise [k0_pay4, mixed_row, rinv, eps, len1024]

/-- The feed-forward step, from any residual `h` and the reciprocal root mean squares `s` of its rows. -/
theorem fed_row (h : FVec Ideal S256x1024 .f32) (g : FVec Ideal S1x1024 .f32) (s : FVec Ideal S256x1 .f32)
    (wg wu : FVec Ideal S1024x2816 .bf16) (wd : FVec Ideal S2816x1024 .bf16) (r : Fin 256)
    (hs : s (ix2 r 0) = rinv len1024 (fun k => h (ix2 r k))) (j : Fin 1024) :
    k0_pay5 (F := Ideal) h g s wg wu wd (ix2 r j)
      = fed (fun k => h (ix2 r k)) (fun k => g (ix2 0 k)) (fun k l => wg (ix2 k l)) (fun k l => wu (ix2 k l))
          (fun k l => wd (ix2 k l)) j := by
  pointwise [k0_pay5, fed, mv, nrm]
  rw [← hs]

/-- The gate of the embedding. -/
theorem gate_row (h : FVec Ideal S256x1024 .f32) (g : FVec Ideal S1x1024 .f32) (s : FVec Ideal S256x1 .f32)
    (wg wu : FVec Ideal S1024x2816 .bf16) (wd : FVec Ideal S2816x1024 .bf16) (gP : FVec Ideal S1x1024 .f32)
    (wpg : FVec Ideal S1024x1024 .bf16) (r : Fin 256) (j : Fin 1024) :
    k0_pay6 (F := Ideal) h g s wg wu wd gP wpg (ix2 r j)
      = Ideal.logistic (mv (nrm len1024 (fun k => k0_pay5 (F := Ideal) h g s wg wu wd (ix2 r k)) (fun k => gP (ix2 0 k)))
          (fun k l => wpg (ix2 k l)) j) := by
  pointwise [k0_pay6, mv, nrm, rinv, eps, len1024]

/-- The stored block, row by row. -/
theorem stored (x : FVec Ideal S256x1024 .f32) (a : FVec Ideal S256x512 .f32) (c : FVec Ideal S256x512 .bf16)
    (p : FVec Ideal S256x256 .f32) (gA : FVec Ideal S1x512 .f32) (wT wB : FVec Ideal S512x1024 .bf16)
    (gF : FVec Ideal S1x1024 .f32) (wg wu : FVec Ideal S1024x2816 .bf16) (wd : FVec Ideal S2816x1024 .bf16)
    (gP : FVec Ideal S1x1024 .f32) (wpg : FVec Ideal S1024x1024 .bf16) (wpp : FVec Ideal S256x1024 .bf16) (r : Fin 256) (j : Fin 1024) :
    k0_pay1 (F := Ideal) (k0_pay5 (k0_pay2 a gA x wT c wB) (k0_pay3 gF) (k0_pay4 a gA x wT c wB) wg wu wd)
        (k0_pay6 (k0_pay2 a gA x wT c wB) (k0_pay3 gF) (k0_pay4 a gA x wT c wB) wg wu wd gP wpg) (k0_pay7 p) wpp (ix2 r j)
      = post (fun k => x (ix2 r k)) (fun k => a (ix2 r k)) (fun k => c (ix2 r k)) (fun k => p (ix2 r k)) (fun k => gA (ix2 0 k))
          (fun k l => wT (ix2 k l)) (fun k l => wB (ix2 k l)) (fun k => gF (ix2 0 k)) (fun k l => wg (ix2 k l))
          (fun k l => wu (ix2 k l)) (fun k l => wd (ix2 k l)) (fun k => gP (ix2 0 k)) (fun k l => wpg (ix2 k l))
          (fun k l => wpp (ix2 k l)) j := by
  have hG : ∀ k, k0_pay3 (F := Ideal) gF (ix2 0 k) = gF (ix2 0 k) := fun k => by pointwise [k0_pay3]
  have hF : ∀ k, k0_pay5 (F := Ideal) (k0_pay2 a gA x wT c wB) (k0_pay3 gF) (k0_pay4 a gA x wT c wB) wg wu wd (ix2 r k) = _ :=
    fun k => fed_row _ _ _ wg wu wd r ((mixed_inv a gA x wT c wB r).trans
      (congrArg _ (funext fun k => (mixed_row a gA x wT c wB r k).symm))) k
  simp only [hG, mixed_row] at hF
  have h1 : k0_pay1 (F := Ideal) (k0_pay5 (k0_pay2 a gA x wT c wB) (k0_pay3 gF) (k0_pay4 a gA x wT c wB) wg wu wd)
        (k0_pay6 (k0_pay2 a gA x wT c wB) (k0_pay3 gF) (k0_pay4 a gA x wT c wB) wg wu wd gP wpg) (k0_pay7 p) wpp (ix2 r j)
      = k0_pay5 (F := Ideal) (k0_pay2 a gA x wT c wB) (k0_pay3 gF) (k0_pay4 a gA x wT c wB) wg wu wd (ix2 r j)
        + mv (fun k => p (ix2 r k)) (fun k l => wpp (ix2 k l)) j
          * k0_pay6 (F := Ideal) (k0_pay2 a gA x wT c wB) (k0_pay3 gF) (k0_pay4 a gA x wT c wB) wg wu wd gP wpg (ix2 r j) := by
    pointwise [k0_pay1, k0_pay7, mv]
  rw [h1, gate_row]
  simp only [hF]
  rfl

end Cert.PostIdeal.Pay

end
-- ==== Proof.PostSpec.lean ====
/- The results of the two post-mixer calls as functions of the call's arguments, row by row. -/
module

public import proofs.«01_k».proof.Proof.Rows

@[expose] public section

noncomputable section

namespace Cert.Rows

open Idealize.ShloMosaic

/-- Equal rows and weights give equal results. -/
theorem post_congr {x x' : Fin 1024 → EReal} {a a' c c' : Fin 512 → EReal} {p p' : Fin 256 → EReal} {gA gA' : Fin 512 → EReal}
    {wT wT' wB wB' : Fin 512 → Fin 1024 → EReal} {gF gF' : Fin 1024 → EReal} {wg wg' wu wu' : Fin 1024 → Fin 2816 → EReal}
    {wd wd' : Fin 2816 → Fin 1024 → EReal} {gP gP' : Fin 1024 → EReal} {wpg wpg' : Fin 1024 → Fin 1024 → EReal}
    {wpp wpp' : Fin 256 → Fin 1024 → EReal} {j j' : Fin 1024}
    (hx : ∀ k, x k = x' k) (ha : ∀ k, a k = a' k) (hc : ∀ k, c k = c' k) (hp : ∀ k, p k = p' k) (hgA : ∀ k, gA k = gA' k)
    (hwT : ∀ k l, wT k l = wT' k l) (hwB : ∀ k l, wB k l = wB' k l) (hgF : ∀ k, gF k = gF' k)
    (hwg : ∀ k l, wg k l = wg' k l) (hwu : ∀ k l, wu k l = wu' k l) (hwd : ∀ k l, wd k l = wd' k l)
    (hgP : ∀ k, gP k = gP' k) (hwpg : ∀ k l, wpg k l = wpg' k l) (hwpp : ∀ k l, wpp k l = wpp' k l) (hj : j = j') :
    post x a c p gA wT wB gF wg wu wd gP wpg wpp j = post x' a' c' p' gA' wT' wB' gF' wg' wu' wd' gP' wpg' wpp' j' := by
  obtain rfl : x = x' := funext hx
  obtain rfl : a = a' := funext ha
  obtain rfl : c = c' := funext hc
  obtain rfl : p = p' := funext hp
  obtain rfl : gA = gA' := funext hgA
  obtain rfl : wT = wT' := funext fun k => funext (hwT k)
  obtain rfl : wB = wB' := funext fun k => funext (hwB k)
  obtain rfl : gF = gF' := funext hgF
  obtain rfl : wg = wg' := funext fun k => funext (hwg k)
  obtain rfl : wu = wu' := funext fun k => funext (hwu k)
  obtain rfl : wd = wd' := funext fun k => funext (hwd k)
  obtain rfl : gP = gP' := funext hgP
  obtain rfl : wpg = wpg' := funext fun k => funext (hwpg k)
  obtain rfl : wpp = wpp' := funext fun k => funext (hwpp k)
  rw [hj]

/-- The post-mixer on `B` sequences of `T` rows: row `n` of the result is row `n % T` of sequence `n / T`. -/
def postAt {B T : ℕ} (X : FVec Ideal ⟨3, ![B, T, 1024]⟩ .f32) {N : ℕ} (A : FVec Ideal ⟨2, ![N, 512]⟩ .f32)
    (C : FVec Ideal ⟨2, ![N, 512]⟩ .bf16) (P : FVec Ideal ⟨4, ![1, B, T, 256]⟩ .f32) (gA : FVec Ideal ⟨2, ![1, 512]⟩ .f32)
    (wo : FVec Ideal ⟨3, ![1, 1024, 1024]⟩ .f32) (gF : FVec Ideal ⟨2, ![1, 1024]⟩ .f32)
    (wg wu : FVec Ideal ⟨3, ![1, 1024, 2816]⟩ .f32) (wd : FVec Ideal ⟨3, ![1, 2816, 1024]⟩ .f32)
    (gP : FVec Ideal ⟨2, ![1, 1024]⟩ .f32) (wpg : FVec Ideal ⟨3, ![1, 1024, 1024]⟩ .f32)
    (wpp : FVec Ideal ⟨3, ![1, 256, 1024]⟩ .f32) (n : Fin N) (b : Fin B) (s : Fin T) (j : Fin 1024) : EReal :=
  post (fun k => X (ix3 b s k)) (fun k => A (ix2 n k)) (fun k => C (ix2 n k)) (fun k => P (ix4 0 b s k))
    (fun k => gA (ix2 0 k)) (fun k l => wo (ix3 0 ⟨k, by omega⟩ l)) (fun k l => wo (ix3 0 ⟨512 + k, by omega⟩ l))
    (fun k => gF (ix2 0 k)) (fun k l => wg (ix3 0 k l)) (fun k l => wu (ix3 0 k l)) (fun k l => wd (ix3 0 k l))
    (fun k => gP (ix2 0 k)) (fun k l => wpg (ix3 0 k l)) (fun k l => wpp (ix3 0 k l)) j

/-- Over the prompt rows. -/
def postPrompt (X : FVec Ideal ⟨3, ![4, 4096, 1024]⟩ .f32) (A : FVec Ideal ⟨2, ![16384, 512]⟩ .f32)
    (C : FVec Ideal ⟨2, ![16384, 512]⟩ .bf16) (P : FVec Ideal ⟨4, ![1, 4, 4096, 256]⟩ .f32) (gA : FVec Ideal ⟨2, ![1, 512]⟩ .f32)
    (wo : FVec Ideal ⟨3, ![1, 1024, 1024]⟩ .f32) (gF : FVec Ideal ⟨2, ![1, 1024]⟩ .f32)
    (wg wu : FVec Ideal ⟨3, ![1, 1024, 2816]⟩ .f32) (wd : FVec Ideal ⟨3, ![1, 2816, 1024]⟩ .f32)
    (gP : FVec Ideal ⟨2, ![1, 1024]⟩ .f32) (wpg : FVec Ideal ⟨3, ![1, 1024, 1024]⟩ .f32)
    (wpp : FVec Ideal ⟨3, ![1, 256, 1024]⟩ .f32) : FVec Ideal ⟨2, ![16384, 1024]⟩ .f32 :=
  fun i => postAt X A C P gA wo gF wg wu wd gP wpg wpp (i 0)
    ⟨(i 0).val / 4096, Nat.div_lt_of_lt_mul (i 0).isLt⟩ ⟨(i 0).val % 4096, Nat.mod_lt _ (by norm_num)⟩ (i 1)

/-- Over the sample rows. -/
def postSample (X : FVec Ideal ⟨3, ![128, 1, 1024]⟩ .f32) (A : FVec Ideal ⟨2, ![128, 512]⟩ .f32)
    (C : FVec Ideal ⟨2, ![128, 512]⟩ .bf16) (P : FVec Ideal ⟨4, ![1, 128, 1, 256]⟩ .f32) (gA : FVec Ideal ⟨2, ![1, 512]⟩ .f32)
    (wo : FVec Ideal ⟨3, ![1, 1024, 1024]⟩ .f32) (gF : FVec Ideal ⟨2, ![1, 1024]⟩ .f32)
    (wg wu : FVec Ideal ⟨3, ![1, 1024, 2816]⟩ .f32) (wd : FVec Ideal ⟨3, ![1, 2816, 1024]⟩ .f32)
    (gP : FVec Ideal ⟨2, ![1, 1024]⟩ .f32) (wpg : FVec Ideal ⟨3, ![1, 1024, 1024]⟩ .f32)
    (wpp : FVec Ideal ⟨3, ![1, 256, 1024]⟩ .f32) : FVec Ideal ⟨2, ![128, 1024]⟩ .f32 :=
  fun i => postAt X A C P gA wo gF wg wu wd gP wpg wpp (i 0) (i 0) 0 (i 1)

end Cert.Rows

end
-- ==== Proof.PostBlk.lean ====
/- The blocks that the call `PostIdeal` stages, as parts of the call's arguments. -/
module

public import proofs.«01_k».proof.Proof.Gen.PostIdeal.Value
public import proofs.«01_k».proof.Proof.PostPay
public import proofs.«01_k».proof.Proof.PostSpec
public import Idealize.ShloMosaic.Lib.Pipeline.ValueKit
public import Idealize.ShloMosaic.Lib.Claim

@[expose] public section

set_option maxRecDepth 16384

noncomputable section

namespace Cert.PostIdeal.Result

open Cert.PostIdeal Cert.PostIdeal.Gen Idealize.ShloMosaic Idealize.ShloMosaic.TcCoe Idealize.SL.Sem Cert.Rows

variable (m : (ℓ : Loc nD τ sig) → Buf (Elt Ideal) ℓ)

/-- Where each window's block sits at every grid point. -/
theorem idx : ∀ t : Fin cfg0.N,
    (win0_0.index t = ![t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0]) ∧ win0_13.index t = ![t.val, 0] :=
  (by decide +kernel : ∀ t : Fin grid0.N, _)

/-- The result, over the argument arrays of core `c`. -/
abbrev G (c : Dev nD) : Buf (Elt Ideal) ((c : Thread nD τ).loc main_v21) :=
  postPrompt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The blocks of the row operands: row `r` of point `t`'s block is row `256 * t + r`. -/
theorem blk0 (c : Dev nD) (t : Fin cfg0.N) (r : Fin 256) (k : Fin 1024) (n : Fin 16384) (h : n.val = t.val * 256 + r.val) :
    iblk m c 0 t (ix2 r k) = m ((c : Thread nD τ).loc main_arg0) (ix3 ⟨n.val / 4096, by omega⟩ ⟨n.val % 4096, by omega⟩ k) := by
  have hn := n.isLt
  blk_point [iblk, V, idx t]

theorem blk1 (c : Dev nD) (t : Fin cfg0.N) (r : Fin 256) (k : Fin 512) (n : Fin 16384) (h : n.val = t.val * 256 + r.val) :
    iblk m c 1 t (ix2 r k) = m ((c : Thread nD τ).loc main_arg1) (ix2 n k) := by
  blk_point [iblk, V, idx t]

theorem blk2 (c : Dev nD) (t : Fin cfg0.N) (r : Fin 256) (k : Fin 512) (n : Fin 16384) (h : n.val = t.val * 256 + r.val) :
    iblk m c 2 t (ix2 r k) = m ((c : Thread nD τ).loc main_arg2) (ix2 n k) := by
  blk_point [iblk, V, idx t]

theorem blk3 (c : Dev nD) (t : Fin cfg0.N) (r : Fin 256) (k : Fin 256) (n : Fin 16384) (h : n.val = t.val * 256 + r.val) :
    iblk m c 3 t (ix2 r k) = m ((c : Thread nD τ).loc main_arg3) (ix4 0 ⟨n.val / 4096, by omega⟩ ⟨n.val % 4096, by omega⟩ k) := by
  have hn := n.isLt
  blk_point [iblk, V, idx t]

/-- The weights' blocks are the weights. -/
theorem blk4 (c : Dev nD) (t : Fin cfg0.N) (k : Fin 512) :
    iblk m c 4 t (ix2 0 k) = m ((c : Thread nD τ).loc main_arg4) (ix2 0 k) := by
  blk_point [iblk, V, idx t]

theorem blk5 (c : Dev nD) (t : Fin cfg0.N) (k l : Fin 1024) :
    iblk m c 5 t (ix2 k l) = m ((c : Thread nD τ).loc main_arg5) (ix3 0 k l) := by
  blk_point [iblk, V, idx t]

theorem blk6 (c : Dev nD) (t : Fin cfg0.N) (k : Fin 1024) :
    iblk m c 6 t (ix2 0 k) = m ((c : Thread nD τ).loc main_arg6) (ix2 0 k) := by
  blk_point [iblk, V, idx t]

theorem blk7 (c : Dev nD) (t : Fin cfg0.N) (k : Fin 1024) (l : Fin 2816) :
    iblk m c 7 t (ix2 k l) = m ((c : Thread nD τ).loc main_arg7) (ix3 0 k l) := by
  blk_point [iblk, V, idx t]

theorem blk8 (c : Dev nD) (t : Fin cfg0.N) (k : Fin 1024) (l : Fin 2816) :
    iblk m c 8 t (ix2 k l) = m ((c : Thread nD τ).loc main_arg8) (ix3 0 k l) := by
  blk_point [iblk, V, idx t]

theorem blk9 (c : Dev nD) (t : Fin cfg0.N) (k : Fin 2816) (l : Fin 1024) :
    iblk m c 9 t (ix2 k l) = m ((c : Thread nD τ).loc main_arg9) (ix3 0 k l) := by
  blk_point [iblk, V, idx t]

theorem blk10 (c : Dev nD) (t : Fin cfg0.N) (k : Fin 1024) :
    iblk m c 10 t (ix2 0 k) = m ((c : Thread nD τ).loc main_arg10) (ix2 0 k) := by
  blk_point [iblk, V, idx t]

theorem blk11 (c : Dev nD) (t : Fin cfg0.N) (k l : Fin 1024) :
    iblk m c 11 t (ix2 k l) = m ((c : Thread nD τ).loc main_arg11) (ix3 0 k l) := by
  blk_point [iblk, V, idx t]

theorem blk12 (c : Dev nD) (t : Fin cfg0.N) (k : Fin 256) (l : Fin 1024) :
    iblk m c 12 t (ix2 k l) = m ((c : Thread nD τ).loc main_arg12) (ix3 0 k l) := by
  blk_point [iblk, V, idx t]

end Cert.PostIdeal.Result

end
-- ==== Proof.PostResult.lean ====
/- The result array of the call `PostIdeal` after its run, as one function of the call's arguments. -/
module

public import proofs.«01_k».proof.Proof.Gen.PostIdeal.Value
public import proofs.«01_k».proof.Proof.PostBlk
public import Idealize.ShloMosaic.Lib.Pipeline.ValueKit
public import Idealize.ShloMosaic.Lib.Claim

@[expose] public section

set_option maxRecDepth 16384

noncomputable section

namespace Cert.PostIdeal.Result

open Cert.PostIdeal Cert.PostIdeal.Gen Idealize.ShloMosaic Idealize.ShloMosaic.TcCoe Idealize.SL.Sem Cert.Rows

/-- What the body leaves in the result's buffer, row by row, over any blocks. -/
theorem left_row (x0 : FVec Ideal S256x1024 .f32) (x1 : FVec Ideal S256x512 .f32) (x2 : FVec Ideal S256x512 .bf16)
    (x3 : FVec Ideal S256x256 .f32) (x4 : FVec Ideal S1x512 .f32) (x5 : FVec Ideal S1024x1024 .bf16) (x6 : FVec Ideal S1x1024 .f32)
    (x7 x8 : FVec Ideal S1024x2816 .bf16) (x9 : FVec Ideal S2816x1024 .bf16) (x10 : FVec Ideal S1x1024 .f32)
    (x11 : FVec Ideal S1024x1024 .bf16) (x12 : FVec Ideal S256x1024 .bf16) (r : Fin 256) (j : Fin 1024) :
    out0_13 (F := Ideal) x0 x1 x2 x3 x4 x5 x6 x7 x8 x9 x10 x11 x12 (ix2 r j)
      = post (fun k => x0 (ix2 r k)) (fun k => x1 (ix2 r k)) (fun k => x2 (ix2 r k)) (fun k => x3 (ix2 r k))
          (fun k => x4 (ix2 0 k)) (fun k l => x5 (ix2 ⟨k, by omega⟩ l)) (fun k l => x5 (ix2 ⟨512 + k, by omega⟩ l))
          (fun k => x6 (ix2 0 k)) (fun k l => x7 (ix2 k l)) (fun k l => x8 (ix2 k l)) (fun k l => x9 (ix2 k l))
          (fun k => x10 (ix2 0 k)) (fun k l => x11 (ix2 k l)) (fun k l => x12 (ix2 k l)) j := by
  frame_out
  refine (Pay.stored _ _ _ _ _ _ _ _ _ _ _ _ _ _ _ _).trans ?_
  refine post_congr ?_ ?_ ?_ ?_ ?_ ?_ ?_ ?_ ?_ ?_ ?_ ?_ ?_ ?_ rfl
  all_goals (try intro k)
  all_goals (try intro l)
  all_goals first | rfl | pointwise [r0_0, r0_1, r0_2, r0_3, r0_4, r0_5]

variable (m : (ℓ : Loc nD τ sig) → Buf (Elt Ideal) ℓ)

/-- The result array after the run is `G`: the blocks written back tile it, and each holds the rows of `G` it covers. -/
theorem final (c : Dev nD) : (dats m 0 c).arrAt 13 cfg0.N = G m c := by
  refine (dats m 0 c).arrAt_eq_of_covers 13 _ (by decide +kernel) fun t _ y => ?_
  blk_simp
  rw [after0_13]
  idx_vars y
  have h0 : (((View.whole main_v21).slice (win0_13.rect t)).emb (ix2 y0 y1) 0).val = t.val * 256 + y0.val := by blk_simp [idx t]
  have h1 : y1 = ((View.whole main_v21).slice (win0_13.rect t)).emb (ix2 y0 y1) 1 := by apply Fin.ext; blk_simp [idx t]
  refine (left_row _ _ _ _ _ _ _ _ _ _ _ _ _ y0 y1).trans ?_
  exact post_congr (fun k => blk0 m c t y0 k _ h0) (fun k => blk1 m c t y0 k _ h0) (fun k => blk2 m c t y0 k _ h0)
    (fun k => blk3 m c t y0 k _ h0) (fun k => blk4 m c t k) (fun k l => blk5 m c t _ l) (fun k l => blk5 m c t _ l)
    (fun k => blk6 m c t k) (fun k l => blk7 m c t k l) (fun k l => blk8 m c t k l) (fun k l => blk9 m c t k l)
    (fun k => blk10 m c t k) (fun k l => blk11 m c t k l) (fun k l => blk12 m c t k l) h1

end Cert.PostIdeal.Result

end
-- ==== Proof.PostRead.lean ====
/- The result of the reference `RefPostIdeal`, row by row, as the same function of the arguments. -/
module

public import proofs.«01_k».proof.Proof.Gen.RefPostIdeal.Read
public import proofs.«01_k».proof.Proof.PostSpec

@[expose] public section

set_option maxRecDepth 16384

noncomputable section

namespace Cert.RefPostIdeal.Rows

open Cert.RefPostIdeal Cert.RefPostIdeal.Gen Cert.RefPostIdeal.Read Idealize.ShloMosaic Cert.Rows

variable (X : FVec Ideal S4x4096x1024 .f32) (A : FVec Ideal S16384x512 .f32) (C : FVec Ideal S16384x512 .bf16)
  (P : FVec Ideal S1x4x4096x256 .f32) (gA : FVec Ideal S1x512 .f32) (wo : FVec Ideal S1x1024x1024 .f32)
  (gF : FVec Ideal S1x1024 .f32) (wg wu : FVec Ideal S1x1024x2816 .f32) (wd : FVec Ideal S1x2816x1024 .f32)
  (gP : FVec Ideal S1x1024 .f32) (wpg : FVec Ideal S1x1024x1024 .f32) (wpp : FVec Ideal S1x256x1024 .f32)

/-- The residual after the output projection. -/
theorem mixed_row (b : Fin 4) (s : Fin 4096) (j : Fin 1024) :
    val_main_v20 (F := Ideal) X A C gA wo (ix3 b s j)
      = mixed (fun k => X (ix3 b s k)) (fun k => A (ix2 ⟨b * 4096 + s, by omega⟩ k))
          (fun k => C (ix2 ⟨b * 4096 + s, by omega⟩ k)) (fun k => gA (ix2 0 k))
          (fun k l => wo (ix3 0 ⟨k, by omega⟩ l)) (fun k l => wo (ix3 0 ⟨512 + k, by omega⟩ l)) j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1,
    mixed, mv, nrm, rinv, eps, len512]
  exact (add_assoc _ _ _).symm

/-- The feed-forward step. -/
theorem fed_row (b : Fin 4) (s : Fin 4096) (j : Fin 1024) :
    val_main_v43 (F := Ideal) X A C gA wo gF wg wu wd (ix3 b s j)
      = fed (fun k => val_main_v20 (F := Ideal) X A C gA wo (ix3 b s k)) (fun k => gF (ix2 0 k))
          (fun k l => wg (ix3 0 k l)) (fun k l => wu (ix3 0 k l)) (fun k l => wd (ix3 0 k l)) j := by
  pointwise [val_main_v43, val_main_v42, val_main_v41, val_main_v40, val_main_v39, val_main_v38, val_main_v37,
    val_main_call0_v5, val_main_call0_v4, val_main_call0_v3, val_main_call0_v2, val_main_call0_v1, val_main_call0_v0,
    val_main_call0_cst, val_main_call0_cst_0,
    val_main_v36, val_main_v35, val_main_v34, val_main_v33, val_main_v32, val_main_v31, val_main_v30, val_main_v29,
    val_main_v28, val_main_v27, val_main_v26, val_main_v25, val_main_v24, val_main_v23, val_main_v22, val_main_v21,
    val_main_cst_2, val_main_cst_3, val_main_cst_4,
    fed, mv, nrm, rinv, eps, len1024, Ideal.logistic]

/-- The result. -/
theorem result (b : Fin 4) (s : Fin 4096) (j : Fin 1024) :
    val_main_v70 (F := Ideal) X A C P gA wo gF wg wu wd gP wpg wpp (ix3 b s j)
      = postAt X A C P gA wo gF wg wu wd gP wpg wpp ⟨b * 4096 + s, by omega⟩ b s j := by
  have h : val_main_v70 (F := Ideal) X A C P gA wo gF wg wu wd gP wpg wpp (ix3 b s j)
      = gated (fun k => val_main_v43 (F := Ideal) X A C gA wo gF wg wu wd (ix3 b s k)) (fun k => gP (ix2 0 k))
          (fun k l => wpg (ix3 0 k l)) (fun k => P (ix4 0 b s k)) (fun k l => wpp (ix3 0 k l)) j := by
    pointwise [val_main_v70, val_main_v69, val_main_v68, val_main_v67, val_main_v66, val_main_v65, val_main_v64, val_main_v63,
      val_main_v62, val_main_v61, val_main_v60, val_main_v59, val_main_v58, val_main_v57, val_main_v56, val_main_v55,
      val_main_v54, val_main_v53, val_main_v52, val_main_v51, val_main_v50, val_main_v49, val_main_v48, val_main_v47,
      val_main_v46, val_main_v45, val_main_v44, val_main_cst_5, val_main_cst_6, val_main_cst_7, val_main_cst_8, val_main_cst_9,
      gated, mv, nrm, rinv, eps, len1024, Ideal.logistic]
  rw [h]
  simp only [fed_row, mixed_row]
  rfl

/-- The result as one function of the arguments. -/
theorem result_all :
    val_main_v71 (F := Ideal) X A C P gA wo gF wg wu wd gP wpg wpp = postPrompt X A C P gA wo gF wg wu wd gP wpg wpp := by
  funext i
  idx_vars i
  have h : val_main_v71 (F := Ideal) X A C P gA wo gF wg wu wd gP wpg wpp (ix2 i0 i1)
      = val_main_v70 (F := Ideal) X A C P gA wo gF wg wu wd gP wpg wpp (ix3 ⟨i0 / 4096, by omega⟩ ⟨i0 % 4096, by omega⟩ i1) := by
    pointwise [val_main_v71]
  rw [h, result]
  show _ = postAt X A C P gA wo gF wg wu wd gP wpg wpp i0 ⟨i0 / 4096, by omega⟩ ⟨i0 % 4096, by omega⟩ i1
  congr 1
  exact Fin.ext (by simp only; omega)

end Cert.RefPostIdeal.Rows

end
-- ==== Proof.PostClaim.lean ====
/- The value claim of the call `PostIdeal`: its result arrays are those of the written-out mathematics `RefPostIdeal`. -/
module

public import proofs.«01_k».proof.Defs
public import proofs.«01_k».proof.Proof.Gen.PostIdeal.Value
public import proofs.«01_k».proof.Proof.Gen.PostIdeal.Frame
public import proofs.«01_k».proof.Proof.Gen.RefPostIdeal.Run
public import proofs.«01_k».proof.Proof.Gen.RefPostIdeal.Read
public import proofs.«01_k».proof.Proof.PostResult
public import proofs.«01_k».proof.Proof.PostRead
public import Idealize.ShloMosaic.Adequacy
public import Idealize.ShloMosaic.Lib.Claim
public import Idealize.ShloMosaic.Init

@[expose] public section

noncomputable section

namespace Cert.RefPostIdeal.Rows

open Cert.RefPostIdeal Cert.RefPostIdeal.Read Idealize.ShloMosaic Cert.Rows

section

variable {X X' : FVec Ideal S4x4096x1024 .f32} {A A' : FVec Ideal S16384x512 .f32} {C C' : FVec Ideal S16384x512 .bf16} {P P' : FVec Ideal S1x4x4096x256 .f32} {gA gA' : FVec Ideal S1x512 .f32} {wo wo' : FVec Ideal S1x1024x1024 .f32} {gF gF' : FVec Ideal S1x1024 .f32} {wg wg' : FVec Ideal S1x1024x2816 .f32} {wu wu' : FVec Ideal S1x1024x2816 .f32} {wd wd' : FVec Ideal S1x2816x1024 .f32} {gP gP' : FVec Ideal S1x1024 .f32} {wpg wpg' : FVec Ideal S1x1024x1024 .f32} {wpp wpp' : FVec Ideal S1x256x1024 .f32}

/- Each result array as one function of its index, over arrays equal to those the kernel was given. -/
theorem post_all (h0 : X' = X) (h1 : A' = A) (h2 : C' = C) (h3 : P' = P) (h4 : gA' = gA) (h5 : wo' = wo) (h6 : gF' = gF) (h7 : wg' = wg) (h8 : wu' = wu) (h9 : wd' = wd) (h10 : gP' = gP) (h11 : wpg' = wpg) (h12 : wpp' = wpp) : val_main_v71 (F := Ideal) X' A' C' P' gA' wo' gF' wg' wu' wd' gP' wpg' wpp'
    = postPrompt X A C P gA wo gF wg wu wd gP wpg wpp := by
  subst h0 h1 h2 h3 h4 h5 h6 h7 h8 h9 h10 h11 h12
  exact result_all _ _ _ _ _ _ _ _ _ _ _ _ _

end

end Cert.RefPostIdeal.Rows

namespace Cert.Proof

open Idealize.ShloMosaic Idealize.SL.Sem

theorem frame_RefPostIdeal : Cert.quiescent_RefPostIdeal := fun m ρ _ =>
  (θ_run _ _ _).mono (fun r h => ⟨fun c => (h c).2,
      sem_eq_zero_of_no_sems (by decide) r.2⟩) (Cert.RefPostIdeal.Value.run m ρ)

theorem value_PostIdeal : Cert.algebraic_PostIdeal_RefPostIdeal := by
  intro m ρ m' ρ' _ hag
  refine ⟨fun c => Cert.PostIdeal.Result.G m c, ?_, ?_⟩
  · refine (θ_run _ _ _).mono (fun r h c => ?_) (Cert.PostIdeal.Value.run_blocks m ρ)
    have h := h c
    exact ⟨(h.1).trans (Cert.PostIdeal.Result.final m c), h.2⟩
  · refine (θ_run _ _ _).mono (fun r h c => ?_) (Cert.RefPostIdeal.Value.run m' ρ')
    have h := h c
    have a := hag c
    exact ⟨(h.1).trans ((Cert.RefPostIdeal.Read.val_main_v71_eq m' c).trans (Cert.RefPostIdeal.Rows.post_all (a.1) (a.2.1) (a.2.2.1) (a.2.2.2.1) (a.2.2.2.2.1) (a.2.2.2.2.2.1) (a.2.2.2.2.2.2.1) (a.2.2.2.2.2.2.2.1) (a.2.2.2.2.2.2.2.2.1) (a.2.2.2.2.2.2.2.2.2.1) (a.2.2.2.2.2.2.2.2.2.2.1) (a.2.2.2.2.2.2.2.2.2.2.2.1) (a.2.2.2.2.2.2.2.2.2.2.2.2))),
      h.2⟩

end Cert.Proof

end
-- ==== Proof.PostSamplePay.lean ====
/- What the body of the call `PostSampleIdeal` stores, read one row at a time: each payload at row `r` is a function of row `r`
   of the blocks and of the weights. -/
module

public import proofs.«01_k».proof.Proof.Gen.PostSampleIdeal.Skeleton
public import proofs.«01_k».proof.Proof.Rows

@[expose] public section

set_option maxRecDepth 16384

noncomputable section

namespace Cert.PostSampleIdeal.Pay

open Cert.PostSampleIdeal Cert.PostSampleIdeal.Gen Idealize.ShloMosaic Cert.Rows

/-- The residual after the output projection. -/
theorem mixed_row (a : FVec Ideal S128x512 .f32) (gA : FVec Ideal S1x512 .f32) (x : FVec Ideal S128x1024 .f32)
    (wT : FVec Ideal S512x1024 .bf16) (c : FVec Ideal S128x512 .bf16) (wB : FVec Ideal S512x1024 .bf16) (r : Fin 128) (j : Fin 1024) :
    k0_pay2 (F := Ideal) a gA x wT c wB (ix2 r j)
      = mixed (fun k => x (ix2 r k)) (fun k => a (ix2 r k)) (fun k => c (ix2 r k)) (fun k => gA (ix2 0 k))
          (fun k l => wT (ix2 k l)) (fun k l => wB (ix2 k l)) j := by
  pointwise [k0_pay2, mixed, mv, nrm, rinv, eps, len512]

/-- The reciprocal root mean square of that residual. -/
theorem mixed_inv (a : FVec Ideal S128x512 .f32) (gA : FVec Ideal S1x512 .f32) (x : FVec Ideal S128x1024 .f32)
    (wT : FVec Ideal S512x1024 .bf16) (c : FVec Ideal S128x512 .bf16) (wB : FVec Ideal S512x1024 .bf16) (r : Fin 128) :
    k0_pay4 (F := Ideal) a gA x wT c wB (ix2 r 0)
      = rinv len1024 (mixed (fun k => x (ix2 r k)) (fun k => a (ix2 r k)) (fun k => c (ix2 r k)) (fun k => gA (ix2 0 k))
          (fun k l => wT (ix2 k l)) (fun k l => wB (ix2 k l))) := by
  pointwise [k0_pay4, mixed_row, rinv, eps, len1024]

/-- The feed-forward step, from any residual `h` and the reciprocal root mean squares `s` of its rows. -/
theorem fed_row (h : FVec Ideal S128x1024 .f32) (g : FVec Ideal S1x1024 .f32) (s : FVec Ideal S128x1 .f32)
    (wg wu : FVec Ideal S1024x2816 .bf16) (wd : FVec Ideal S2816x1024 .bf16) (r : Fin 128)
    (hs : s (ix2 r 0) = rinv len1024 (fun k => h (ix2 r k))) (j : Fin 1024) :
    k0_pay5 (F := Ideal) h g s wg wu wd (ix2 r j)
      = fed (fun k => h (ix2 r k)) (fun k => g (ix2 0 k)) (fun k l => wg (ix2 k l)) (fun k l => wu (ix2 k l))
          (fun k l => wd (ix2 k l)) j := by
  pointwise [k0_pay5, fed, mv, nrm]
  rw [← hs]

/-- The gate of the embedding. -/
theorem gate_row (h : FVec Ideal S128x1024 .f32) (g : FVec Ideal S1x1024 .f32) (s : FVec Ideal S128x1 .f32)
    (wg wu : FVec Ideal S1024x2816 .bf16) (wd : FVec Ideal S2816x1024 .bf16) (gP : FVec Ideal S1x1024 .f32)
    (wpg : FVec Ideal S1024x1024 .bf16) (r : Fin 128) (j : Fin 1024) :
    k0_pay6 (F := Ideal) h g s wg wu wd gP wpg (ix2 r j)
      = Ideal.logistic (mv (nrm len1024 (fun k => k0_pay5 (F := Ideal) h g s wg wu wd (ix2 r k)) (fun k => gP (ix2 0 k)))
          (fun k l => wpg (ix2 k l)) j) := by
  pointwise [k0_pay6, mv, nrm, rinv, eps, len1024]

/-- The stored block, row by row. -/
theorem stored (x : FVec Ideal S128x1024 .f32) (a : FVec Ideal S128x512 .f32) (c : FVec Ideal S128x512 .bf16)
    (p : FVec Ideal S128x256 .f32) (gA : FVec Ideal S1x512 .f32) (wT wB : FVec Ideal S512x1024 .bf16)
    (gF : FVec Ideal S1x1024 .f32) (wg wu : FVec Ideal S1024x2816 .bf16) (wd : FVec Ideal S2816x1024 .bf16)
    (gP : FVec Ideal S1x1024 .f32) (wpg : FVec Ideal S1024x1024 .bf16) (wpp : FVec Ideal S256x1024 .bf16) (r : Fin 128) (j : Fin 1024) :
    k0_pay1 (F := Ideal) (k0_pay5 (k0_pay2 a gA x wT c wB) (k0_pay3 gF) (k0_pay4 a gA x wT c wB) wg wu wd)
        (k0_pay6 (k0_pay2 a gA x wT c wB) (k0_pay3 gF) (k0_pay4 a gA x wT c wB) wg wu wd gP wpg) (k0_pay7 p) wpp (ix2 r j)
      = post (fun k => x (ix2 r k)) (fun k => a (ix2 r k)) (fun k => c (ix2 r k)) (fun k => p (ix2 r k)) (fun k => gA (ix2 0 k))
          (fun k l => wT (ix2 k l)) (fun k l => wB (ix2 k l)) (fun k => gF (ix2 0 k)) (fun k l => wg (ix2 k l))
          (fun k l => wu (ix2 k l)) (fun k l => wd (ix2 k l)) (fun k => gP (ix2 0 k)) (fun k l => wpg (ix2 k l))
          (fun k l => wpp (ix2 k l)) j := by
  have hG : ∀ k, k0_pay3 (F := Ideal) gF (ix2 0 k) = gF (ix2 0 k) := fun k => by pointwise [k0_pay3]
  have hF : ∀ k, k0_pay5 (F := Ideal) (k0_pay2 a gA x wT c wB) (k0_pay3 gF) (k0_pay4 a gA x wT c wB) wg wu wd (ix2 r k) = _ :=
    fun k => fed_row _ _ _ wg wu wd r ((mixed_inv a gA x wT c wB r).trans
      (congrArg _ (funext fun k => (mixed_row a gA x wT c wB r k).symm))) k
  simp only [hG, mixed_row] at hF
  have h1 : k0_pay1 (F := Ideal) (k0_pay5 (k0_pay2 a gA x wT c wB) (k0_pay3 gF) (k0_pay4 a gA x wT c wB) wg wu wd)
        (k0_pay6 (k0_pay2 a gA x wT c wB) (k0_pay3 gF) (k0_pay4 a gA x wT c wB) wg wu wd gP wpg) (k0_pay7 p) wpp (ix2 r j)
      = k0_pay5 (F := Ideal) (k0_pay2 a gA x wT c wB) (k0_pay3 gF) (k0_pay4 a gA x wT c wB) wg wu wd (ix2 r j)
        + mv (fun k => p (ix2 r k)) (fun k l => wpp (ix2 k l)) j
          * k0_pay6 (F := Ideal) (k0_pay2 a gA x wT c wB) (k0_pay3 gF) (k0_pay4 a gA x wT c wB) wg wu wd gP wpg (ix2 r j) := by
    pointwise [k0_pay1, k0_pay7, mv]
  rw [h1, gate_row]
  simp only [hF]
  rfl

end Cert.PostSampleIdeal.Pay

end
-- ==== Proof.PostSampleBlk.lean ====
/- The blocks that the call `PostSampleIdeal` stages, as parts of the call's arguments. -/
module

public import proofs.«01_k».proof.Proof.Gen.PostSampleIdeal.Value
public import proofs.«01_k».proof.Proof.PostSamplePay
public import proofs.«01_k».proof.Proof.PostSpec
public import Idealize.ShloMosaic.Lib.Pipeline.ValueKit
public import Idealize.ShloMosaic.Lib.Claim

@[expose] public section

set_option maxRecDepth 16384

noncomputable section

namespace Cert.PostSampleIdeal.Result

open Cert.PostSampleIdeal Cert.PostSampleIdeal.Gen Idealize.ShloMosaic Idealize.ShloMosaic.TcCoe Idealize.SL.Sem Cert.Rows

variable (m : (ℓ : Loc nD τ sig) → Buf (Elt Ideal) ℓ)

/-- Where each window's block sits at every grid point. -/
theorem idx : ∀ t : Fin cfg0.N,
    (win0_0.index t = ![t.val, 0] ∧ win0_1.index t = ![t.val, 0] ∧ win0_2.index t = ![t.val, 0] ∧ win0_3.index t = ![t.val, 0])
    ∧ (win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0]) ∧ win0_13.index t = ![t.val, 0] :=
  (by decide +kernel : ∀ t : Fin grid0.N, _)

/-- The result, over the argument arrays of core `c`. -/
abbrev G (c : Dev nD) : Buf (Elt Ideal) ((c : Thread nD τ).loc main_v21) :=
  postSample (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The blocks of the row operands: row `r` of point `t`'s block is row `128 * t + r`. -/
theorem blk0 (c : Dev nD) (t : Fin cfg0.N) (r : Fin 128) (k : Fin 1024) (n : Fin 128) (h : n.val = t.val * 128 + r.val) :
    iblk m c 0 t (ix2 r k) = m ((c : Thread nD τ).loc main_arg0) (ix3 n 0 k) := by
  have hn := n.isLt
  blk_point [iblk, V, idx t]

theorem blk1 (c : Dev nD) (t : Fin cfg0.N) (r : Fin 128) (k : Fin 512) (n : Fin 128) (h : n.val = t.val * 128 + r.val) :
    iblk m c 1 t (ix2 r k) = m ((c : Thread nD τ).loc main_arg1) (ix2 n k) := by
  blk_point [iblk, V, idx t]

theorem blk2 (c : Dev nD) (t : Fin cfg0.N) (r : Fin 128) (k : Fin 512) (n : Fin 128) (h : n.val = t.val * 128 + r.val) :
    iblk m c 2 t (ix2 r k) = m ((c : Thread nD τ).loc main_arg2) (ix2 n k) := by
  blk_point [iblk, V, idx t]

theorem blk3 (c : Dev nD) (t : Fin cfg0.N) (r : Fin 128) (k : Fin 256) (n : Fin 128) (h : n.val = t.val * 128 + r.val) :
    iblk m c 3 t (ix2 r k) = m ((c : Thread nD τ).loc main_arg3) (ix4 0 n 0 k) := by
  have hn := n.isLt
  blk_point [iblk, V, idx t]

/-- The weights' blocks are the weights. -/
theorem blk4 (c : Dev nD) (t : Fin cfg0.N) (k : Fin 512) :
    iblk m c 4 t (ix2 0 k) = m ((c : Thread nD τ).loc main_arg4) (ix2 0 k) := by
  blk_point [iblk, V, idx t]

theorem blk5 (c : Dev nD) (t : Fin cfg0.N) (k l : Fin 1024) :
    iblk m c 5 t (ix2 k l) = m ((c : Thread nD τ).loc main_arg5) (ix3 0 k l) := by
  blk_point [iblk, V, idx t]

theorem blk6 (c : Dev nD) (t : Fin cfg0.N) (k : Fin 1024) :
    iblk m c 6 t (ix2 0 k) = m ((c : Thread nD τ).loc main_arg6) (ix2 0 k) := by
  blk_point [iblk, V, idx t]

theorem blk7 (c : Dev nD) (t : Fin cfg0.N) (k : Fin 1024) (l : Fin 2816) :
    iblk m c 7 t (ix2 k l) = m ((c : Thread nD τ).loc main_arg7) (ix3 0 k l) := by
  blk_point [iblk, V, idx t]

theorem blk8 (c : Dev nD) (t : Fin cfg0.N) (k : Fin 1024) (l : Fin 2816) :
    iblk m c 8 t (ix2 k l) = m ((c : Thread nD τ).loc main_arg8) (ix3 0 k l) := by
  blk_point [iblk, V, idx t]

theorem blk9 (c : Dev nD) (t : Fin cfg0.N) (k : Fin 2816) (l : Fin 1024) :
    iblk m c 9 t (ix2 k l) = m ((c : Thread nD τ).loc main_arg9) (ix3 0 k l) := by
  blk_point [iblk, V, idx t]

theorem blk10 (c : Dev nD) (t : Fin cfg0.N) (k : Fin 1024) :
    iblk m c 10 t (ix2 0 k) = m ((c : Thread nD τ).loc main_arg10) (ix2 0 k) := by
  blk_point [iblk, V, idx t]

theorem blk11 (c : Dev nD) (t : Fin cfg0.N) (k l : Fin 1024) :
    iblk m c 11 t (ix2 k l) = m ((c : Thread nD τ).loc main_arg11) (ix3 0 k l) := by
  blk_point [iblk, V, idx t]

theorem blk12 (c : Dev nD) (t : Fin cfg0.N) (k : Fin 256) (l : Fin 1024) :
    iblk m c 12 t (ix2 k l) = m ((c : Thread nD τ).loc main_arg12) (ix3 0 k l) := by
  blk_point [iblk, V, idx t]

end Cert.PostSampleIdeal.Result

end
-- ==== Proof.PostSampleResult.lean ====
/- The result array of the call `PostSampleIdeal` after its run, as one function of the call's arguments. -/
module

public import proofs.«01_k».proof.Proof.Gen.PostSampleIdeal.Value
public import proofs.«01_k».proof.Proof.PostSampleBlk
public import Idealize.ShloMosaic.Lib.Pipeline.ValueKit
public import Idealize.ShloMosaic.Lib.Claim

@[expose] public section

set_option maxRecDepth 16384

noncomputable section

namespace Cert.PostSampleIdeal.Result

open Cert.PostSampleIdeal Cert.PostSampleIdeal.Gen Idealize.ShloMosaic Idealize.ShloMosaic.TcCoe Idealize.SL.Sem Cert.Rows

/-- What the body leaves in the result's buffer, row by row, over any blocks. -/
theorem left_row (x0 : FVec Ideal S128x1024 .f32) (x1 : FVec Ideal S128x512 .f32) (x2 : FVec Ideal S128x512 .bf16)
    (x3 : FVec Ideal S128x256 .f32) (x4 : FVec Ideal S1x512 .f32) (x5 : FVec Ideal S1024x1024 .bf16) (x6 : FVec Ideal S1x1024 .f32)
    (x7 x8 : FVec Ideal S1024x2816 .bf16) (x9 : FVec Ideal S2816x1024 .bf16) (x10 : FVec Ideal S1x1024 .f32)
    (x11 : FVec Ideal S1024x1024 .bf16) (x12 : FVec Ideal S256x1024 .bf16) (r : Fin 128) (j : Fin 1024) :
    out0_13 (F := Ideal) x0 x1 x2 x3 x4 x5 x6 x7 x8 x9 x10 x11 x12 (ix2 r j)
      = post (fun k => x0 (ix2 r k)) (fun k => x1 (ix2 r k)) (fun k => x2 (ix2 r k)) (fun k => x3 (ix2 r k))
          (fun k => x4 (ix2 0 k)) (fun k l => x5 (ix2 ⟨k, by omega⟩ l)) (fun k l => x5 (ix2 ⟨512 + k, by omega⟩ l))
          (fun k => x6 (ix2 0 k)) (fun k l => x7 (ix2 k l)) (fun k l => x8 (ix2 k l)) (fun k l => x9 (ix2 k l))
          (fun k => x10 (ix2 0 k)) (fun k l => x11 (ix2 k l)) (fun k l => x12 (ix2 k l)) j := by
  frame_out
  refine (Pay.stored _ _ _ _ _ _ _ _ _ _ _ _ _ _ _ _).trans ?_
  refine post_congr ?_ ?_ ?_ ?_ ?_ ?_ ?_ ?_ ?_ ?_ ?_ ?_ ?_ ?_ rfl
  all_goals (try intro k)
  all_goals (try intro l)
  all_goals first | rfl | pointwise [r0_0, r0_1, r0_2, r0_3, r0_4, r0_5]

variable (m : (ℓ : Loc nD τ sig) → Buf (Elt Ideal) ℓ)

/-- The result array after the run is `G`: the blocks written back tile it, and each holds the rows of `G` it covers. -/
theorem final (c : Dev nD) : (dats m 0 c).arrAt 13 cfg0.N = G m c := by
  refine (dats m 0 c).arrAt_eq_of_covers 13 _ (by decide +kernel) fun t _ y => ?_
  blk_simp
  rw [after0_13]
  idx_vars y
  have h0 : (((View.whole main_v21).slice (win0_13.rect t)).emb (ix2 y0 y1) 0).val = t.val * 128 + y0.val := by blk_simp [idx t]
  have h1 : y1 = ((View.whole main_v21).slice (win0_13.rect t)).emb (ix2 y0 y1) 1 := by apply Fin.ext; blk_simp [idx t]
  refine (left_row _ _ _ _ _ _ _ _ _ _ _ _ _ y0 y1).trans ?_
  exact post_congr (fun k => blk0 m c t y0 k _ h0) (fun k => blk1 m c t y0 k _ h0) (fun k => blk2 m c t y0 k _ h0)
    (fun k => blk3 m c t y0 k _ h0) (fun k => blk4 m c t k) (fun k l => blk5 m c t _ l) (fun k l => blk5 m c t _ l)
    (fun k => blk6 m c t k) (fun k l => blk7 m c t k l) (fun k l => blk8 m c t k l) (fun k l => blk9 m c t k l)
    (fun k => blk10 m c t k) (fun k l => blk11 m c t k l) (fun k l => blk12 m c t k l) h1

end Cert.PostSampleIdeal.Result

end
-- ==== Proof.PostSampleRead.lean ====
/- The result of the reference `RefPostSampleIdeal`, row by row, as the same function of the arguments. -/
module

public import proofs.«01_k».proof.Proof.Gen.RefPostSampleIdeal.Read
public import proofs.«01_k».proof.Proof.PostSpec

@[expose] public section

set_option maxRecDepth 16384

noncomputable section

namespace Cert.RefPostSampleIdeal.Rows

open Cert.RefPostSampleIdeal Cert.RefPostSampleIdeal.Gen Cert.RefPostSampleIdeal.Read Idealize.ShloMosaic Cert.Rows

variable (X : FVec Ideal S128x1x1024 .f32) (A : FVec Ideal S128x512 .f32) (C : FVec Ideal S128x512 .bf16)
  (P : FVec Ideal S1x128x1x256 .f32) (gA : FVec Ideal S1x512 .f32) (wo : FVec Ideal S1x1024x1024 .f32)
  (gF : FVec Ideal S1x1024 .f32) (wg wu : FVec Ideal S1x1024x2816 .f32) (wd : FVec Ideal S1x2816x1024 .f32)
  (gP : FVec Ideal S1x1024 .f32) (wpg : FVec Ideal S1x1024x1024 .f32) (wpp : FVec Ideal S1x256x1024 .f32)

/-- The residual after the output projection. -/
theorem mixed_row (b : Fin 128) (s : Fin 1) (j : Fin 1024) :
    val_main_v20 (F := Ideal) X A C gA wo (ix3 b s j)
      = mixed (fun k => X (ix3 b s k)) (fun k => A (ix2 b k))
          (fun k => C (ix2 b k)) (fun k => gA (ix2 0 k))
          (fun k l => wo (ix3 0 ⟨k, by omega⟩ l)) (fun k l => wo (ix3 0 ⟨512 + k, by omega⟩ l)) j := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_v2, val_main_v1, val_main_v0, val_main_cst, val_main_cst_0, val_main_cst_1,
    mixed, mv, nrm, rinv, eps, len512]
  exact (add_assoc _ _ _).symm

/-- The feed-forward step. -/
theorem fed_row (b : Fin 128) (s : Fin 1) (j : Fin 1024) :
    val_main_v43 (F := Ideal) X A C gA wo gF wg wu wd (ix3 b s j)
      = fed (fun k => val_main_v20 (F := Ideal) X A C gA wo (ix3 b s k)) (fun k => gF (ix2 0 k))
          (fun k l => wg (ix3 0 k l)) (fun k l => wu (ix3 0 k l)) (fun k l => wd (ix3 0 k l)) j := by
  obtain rfl : s = 0 := Subsingleton.elim _ _
  pointwise [val_main_v43, val_main_v42, val_main_v41, val_main_v40, val_main_v39, val_main_v38, val_main_v37,
    val_main_call0_v5, val_main_call0_v4, val_main_call0_v3, val_main_call0_v2, val_main_call0_v1, val_main_call0_v0,
    val_main_call0_cst, val_main_call0_cst_0,
    val_main_v36, val_main_v35, val_main_v34, val_main_v33, val_main_v32, val_main_v31, val_main_v30, val_main_v29,
    val_main_v28, val_main_v27, val_main_v26, val_main_v25, val_main_v24, val_main_v23, val_main_v22, val_main_v21,
    val_main_cst_2, val_main_cst_3, val_main_cst_4,
    fed, mv, nrm, rinv, eps, len1024, Ideal.logistic]

/-- The result. -/
theorem result (b : Fin 128) (s : Fin 1) (j : Fin 1024) :
    val_main_v70 (F := Ideal) X A C P gA wo gF wg wu wd gP wpg wpp (ix3 b s j)
      = postAt X A C P gA wo gF wg wu wd gP wpg wpp b b s j := by
  have h : val_main_v70 (F := Ideal) X A C P gA wo gF wg wu wd gP wpg wpp (ix3 b s j)
      = gated (fun k => val_main_v43 (F := Ideal) X A C gA wo gF wg wu wd (ix3 b s k)) (fun k => gP (ix2 0 k))
          (fun k l => wpg (ix3 0 k l)) (fun k => P (ix4 0 b s k)) (fun k l => wpp (ix3 0 k l)) j := by
    obtain rfl : s = 0 := Subsingleton.elim _ _
    pointwise [val_main_v70, val_main_v69, val_main_v68, val_main_v67, val_main_v66, val_main_v65, val_main_v64, val_main_v63,
      val_main_v62, val_main_v61, val_main_v60, val_main_v59, val_main_v58, val_main_v57, val_main_v56, val_main_v55,
      val_main_v54, val_main_v53, val_main_v52, val_main_v51, val_main_v50, val_main_v49, val_main_v48, val_main_v47,
      val_main_v46, val_main_v45, val_main_v44, val_main_cst_5, val_main_cst_6, val_main_cst_7, val_main_cst_8, val_main_cst_9,
      gated, mv, nrm, rinv, eps, len1024, Ideal.logistic]
  rw [h]
  simp only [fed_row, mixed_row]
  rfl

/-- The result as one function of the arguments. -/
theorem result_all :
    val_main_v71 (F := Ideal) X A C P gA wo gF wg wu wd gP wpg wpp = postSample X A C P gA wo gF wg wu wd gP wpg wpp := by
  funext i
  idx_vars i
  have h : val_main_v71 (F := Ideal) X A C P gA wo gF wg wu wd gP wpg wpp (ix2 i0 i1)
      = val_main_v70 (F := Ideal) X A C P gA wo gF wg wu wd gP wpg wpp (ix3 i0 0 i1) := by
    pointwise [val_main_v71]
  rw [h, result]
  show _ = postAt X A C P gA wo gF wg wu wd gP wpg wpp i0 i0 0 i1
  rfl

end Cert.RefPostSampleIdeal.Rows

end
-- ==== Proof.PostSampleClaim.lean ====
/- The value claim of the call `PostSampleIdeal`: its result arrays are those of the written-out mathematics `RefPostSampleIdeal`. -/
module

public import proofs.«01_k».proof.Defs
public import proofs.«01_k».proof.Proof.Gen.PostSampleIdeal.Value
public import proofs.«01_k».proof.Proof.Gen.PostSampleIdeal.Frame
public import proofs.«01_k».proof.Proof.Gen.RefPostSampleIdeal.Run
public import proofs.«01_k».proof.Proof.Gen.RefPostSampleIdeal.Read
public import proofs.«01_k».proof.Proof.PostSampleResult
public import proofs.«01_k».proof.Proof.PostSampleRead
public import Idealize.ShloMosaic.Adequacy
public import Idealize.ShloMosaic.Lib.Claim
public import Idealize.ShloMosaic.Init

@[expose] public section

noncomputable section

namespace Cert.RefPostSampleIdeal.Rows

open Cert.RefPostSampleIdeal Cert.RefPostSampleIdeal.Read Idealize.ShloMosaic Cert.Rows

section

variable {X X' : FVec Ideal S128x1x1024 .f32} {A A' : FVec Ideal S128x512 .f32} {C C' : FVec Ideal S128x512 .bf16} {P P' : FVec Ideal S1x128x1x256 .f32} {gA gA' : FVec Ideal S1x512 .f32} {wo wo' : FVec Ideal S1x1024x1024 .f32} {gF gF' : FVec Ideal S1x1024 .f32} {wg wg' : FVec Ideal S1x1024x2816 .f32} {wu wu' : FVec Ideal S1x1024x2816 .f32} {wd wd' : FVec Ideal S1x2816x1024 .f32} {gP gP' : FVec Ideal S1x1024 .f32} {wpg wpg' : FVec Ideal S1x1024x1024 .f32} {wpp wpp' : FVec Ideal S1x256x1024 .f32}

/- Each result array as one function of its index, over arrays equal to those the kernel was given. -/
theorem post_all (h0 : X' = X) (h1 : A' = A) (h2 : C' = C) (h3 : P' = P) (h4 : gA' = gA) (h5 : wo' = wo) (h6 : gF' = gF) (h7 : wg' = wg) (h8 : wu' = wu) (h9 : wd' = wd) (h10 : gP' = gP) (h11 : wpg' = wpg) (h12 : wpp' = wpp) : val_main_v71 (F := Ideal) X' A' C' P' gA' wo' gF' wg' wu' wd' gP' wpg' wpp'
    = postSample X A C P gA wo gF wg wu wd gP wpg wpp := by
  subst h0 h1 h2 h3 h4 h5 h6 h7 h8 h9 h10 h11 h12
  exact result_all _ _ _ _ _ _ _ _ _ _ _ _ _

end

end Cert.RefPostSampleIdeal.Rows

namespace Cert.Proof

open Idealize.ShloMosaic Idealize.SL.Sem

theorem frame_RefPostSampleIdeal : Cert.quiescent_RefPostSampleIdeal := fun m ρ _ =>
  (θ_run _ _ _).mono (fun r h => ⟨fun c => (h c).2,
      sem_eq_zero_of_no_sems (by decide) r.2⟩) (Cert.RefPostSampleIdeal.Value.run m ρ)

theorem value_PostSampleIdeal : Cert.algebraic_PostSampleIdeal_RefPostSampleIdeal := by
  intro m ρ m' ρ' _ hag
  refine ⟨fun c => Cert.PostSampleIdeal.Result.G m c, ?_, ?_⟩
  · refine (θ_run _ _ _).mono (fun r h c => ?_) (Cert.PostSampleIdeal.Value.run_blocks m ρ)
    have h := h c
    exact ⟨(h.1).trans (Cert.PostSampleIdeal.Result.final m c), h.2⟩
  · refine (θ_run _ _ _).mono (fun r h c => ?_) (Cert.RefPostSampleIdeal.Value.run m' ρ')
    have h := h c
    have a := hag c
    exact ⟨(h.1).trans ((Cert.RefPostSampleIdeal.Read.val_main_v71_eq m' c).trans (Cert.RefPostSampleIdeal.Rows.post_all (a.1) (a.2.1) (a.2.2.1) (a.2.2.2.1) (a.2.2.2.2.1) (a.2.2.2.2.2.1) (a.2.2.2.2.2.2.1) (a.2.2.2.2.2.2.2.1) (a.2.2.2.2.2.2.2.2.1) (a.2.2.2.2.2.2.2.2.2.1) (a.2.2.2.2.2.2.2.2.2.2.1) (a.2.2.2.2.2.2.2.2.2.2.2.1) (a.2.2.2.2.2.2.2.2.2.2.2.2))),
      h.2⟩

end Cert.Proof

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.RefInIdeal
public import proofs.«01_k».proof.Proof.Gen.InSample
public import proofs.«01_k».proof.Proof.Gen.InSample.Skeleton
public import proofs.«01_k».proof.Proof.Gen.InSample.Launch
public import proofs.«01_k».proof.Proof.Gen.InSample.Points
public import proofs.«01_k».proof.Proof.Gen.InSample.Frame
public import proofs.«01_k».proof.Proof.Gen.InSampleIdeal
public import proofs.«01_k».proof.Proof.Gen.InSampleIdeal.Skeleton
public import proofs.«01_k».proof.Proof.Gen.InSampleIdeal.Launch
public import proofs.«01_k».proof.Proof.Gen.InSampleIdeal.Points
public import proofs.«01_k».proof.Proof.Gen.InSampleIdeal.Frame
public import proofs.«01_k».proof.Proof.Gen.RefInSampleIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.RefPostIdeal
public import proofs.«01_k».proof.Proof.Gen.PostSample
public import proofs.«01_k».proof.Proof.Gen.PostSample.Skeleton
public import proofs.«01_k».proof.Proof.Gen.PostSample.Launch
public import proofs.«01_k».proof.Proof.Gen.PostSample.Points
public import proofs.«01_k».proof.Proof.Gen.PostSample.Frame
public import proofs.«01_k».proof.Proof.Gen.PostSampleIdeal
public import proofs.«01_k».proof.Proof.Gen.PostSampleIdeal.Skeleton
public import proofs.«01_k».proof.Proof.Gen.PostSampleIdeal.Launch
public import proofs.«01_k».proof.Proof.Gen.PostSampleIdeal.Points
public import proofs.«01_k».proof.Proof.Gen.PostSampleIdeal.Frame
public import proofs.«01_k».proof.Proof.Gen.RefPostSampleIdeal
public import proofs.«01_k».proof.Proof.Gen.InProjIdeal.Value
public import proofs.«01_k».proof.Proof.Gen.InSampleIdeal.Value
public import proofs.«01_k».proof.Proof.Gen.PostIdeal.Value
public import proofs.«01_k».proof.Proof.Gen.PostSampleIdeal.Value
public import proofs.«01_k».proof.Proof.Gen.RefInIdeal.Read
public import proofs.«01_k».proof.Proof.Gen.RefInSampleIdeal.Read
public import proofs.«01_k».proof.Proof.Gen.RefPostIdeal.Read
public import proofs.«01_k».proof.Proof.Gen.RefPostSampleIdeal.Read
public import proofs.«01_k».proof.Proof.InProjClaim
public import proofs.«01_k».proof.Proof.InSampleClaim
public import proofs.«01_k».proof.Proof.PostClaim
public import proofs.«01_k».proof.Proof.PostSampleClaim
public import Idealize.ShloMosaic.Adequacy
public import Idealize.ShloMosaic.Init

@[expose] public section

noncomputable section

namespace Cert.Proof

open Idealize.ShloMosaic Idealize.SL.Sem Cert.InProj

theorem claim : Cert.Claim := ⟨Cert.InProj.Gen.facts, Cert.InProjIdeal.Gen.facts, Cert.RefInIdeal.Gen.facts, Cert.InSample.Gen.facts, Cert.InSampleIdeal.Gen.facts, Cert.RefInSampleIdeal.Gen.facts, Cert.Post.Gen.facts, Cert.PostIdeal.Gen.facts, Cert.RefPostIdeal.Gen.facts, Cert.PostSample.Gen.facts, Cert.PostSampleIdeal.Gen.facts, Cert.RefPostSampleIdeal.Gen.facts, by
  exact ⟨fun m ρ _ => Cert.InProj.Gen.frame m ρ,
    fun m ρ _ => Cert.InProjIdeal.Gen.frame m ρ,
    frame_RefInIdeal,
    fun m ρ _ => Cert.InSample.Gen.frame m ρ,
    fun m ρ _ => Cert.InSampleIdeal.Gen.frame m ρ,
    frame_RefInSampleIdeal,
    fun m ρ _ => Cert.Post.Gen.frame m ρ,
    fun m ρ _ => Cert.PostIdeal.Gen.frame m ρ,
    frame_RefPostIdeal,
    fun m ρ _ => Cert.PostSample.Gen.frame m ρ,
    fun m ρ _ => Cert.PostSampleIdeal.Gen.frame m ρ,
    frame_RefPostSampleIdeal,
    trivial,
    value_InProjIdeal,
    trivial,
    value_InSampleIdeal,
    trivial,
    value_PostIdeal,
    trivial,
    value_PostSampleIdeal⟩⟩

end Cert.Proof

end
